-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)) (v2 : (c : Dev Cert.KernelIdeal.nD) → Buf (Elt Ideal) ((c.tc : Thread Cert.KernelIdeal.nD Cert.KernelIdeal.τ).loc Cert.KernelIdeal.main_v35_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_v35_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_v8) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x768 : Shape := ⟨3, ![4, 8192, 768]⟩
abbrev S768x64 : Shape := ⟨2, ![768, 64]⟩
abbrev S64 : Shape := ⟨1, ![64]⟩
abbrev S768x8 : Shape := ⟨2, ![768, 8]⟩
abbrev S8 : Shape := ⟨1, ![8]⟩
abbrev S_ : Shape := ⟨0, ![]⟩
abbrev S768x56 : Shape := ⟨2, ![768, 56]⟩
abbrev S768x128 : Shape := ⟨2, ![768, 128]⟩
abbrev S128x128 : Shape := ⟨2, ![128, 128]⟩
abbrev S8x1 : Shape := ⟨2, ![8, 1]⟩
abbrev S8x2 : Shape := ⟨2, ![8, 2]⟩
abbrev S128 : Shape := ⟨1, ![128]⟩
abbrev S1 : Shape := ⟨1, ![1]⟩
abbrev S1x128 : Shape := ⟨2, ![1, 128]⟩
abbrev S4x8192x8 : Shape := ⟨3, ![4, 8192, 8]⟩
abbrev S4x1x64 : Shape := ⟨3, ![4, 1, 64]⟩
abbrev S1x4096x768 : Shape := ⟨3, ![1, 4096, 768]⟩
abbrev S1x4096x8 : Shape := ⟨3, ![1, 4096, 8]⟩
abbrev S1x1x64 : Shape := ⟨3, ![1, 1, 64]⟩
abbrev S4096x768 : Shape := ⟨2, ![4096, 768]⟩
abbrev S4096x128 : Shape := ⟨2, ![4096, 128]⟩
abbrev S4096x8 : Shape := ⟨2, ![4096, 8]⟩
abbrev S4096 : Shape := ⟨1, ![4096]⟩
abbrev S4096x1 : Shape := ⟨2, ![4096, 1]⟩
abbrev S1x64 : Shape := ⟨2, ![1, 64]⟩

abbrev nBuf : Space → Nat
  | .hbm => 56
  | .vmem => 13
  | .smem => 0
  | _ => 0

abbrev bufTy : (tb : Table) → Fin (tcTables nBuf tb) → BufTy
  | .hbm, ⟨0, _⟩ => ⟨S4x8192x768, .f32⟩
  | .hbm, ⟨1, _⟩ => ⟨S768x64, .f32⟩
  | .hbm, ⟨2, _⟩ => ⟨S64, .f32⟩
  | .hbm, ⟨3, _⟩ => ⟨S768x8, .f32⟩
  | .hbm, ⟨4, _⟩ => ⟨S8, .f32⟩
  | .hbm, ⟨5, _⟩ => ⟨S_, .f32⟩
  | .hbm, ⟨6, _⟩ => ⟨S768x56, .f32⟩
  | .hbm, ⟨7, _⟩ => ⟨S768x128, .f32⟩
  | .hbm, ⟨8, _⟩ => ⟨S_, .f32⟩
  | .hbm, ⟨9, _⟩ => ⟨S128x128, .f32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S_, .i32⟩
  | .hbm, ⟨23, _⟩ => ⟨S8, .i32⟩
  | .hbm, ⟨24, _⟩ => ⟨S8, .i1⟩
  | .hbm, ⟨25, _⟩ => ⟨S_, .i32⟩
  | .hbm, ⟨26, _⟩ => ⟨S8, .i32⟩
  | .hbm, ⟨27, _⟩ => ⟨S8, .i32⟩
  | .hbm, ⟨28, _⟩ => ⟨S8, .i32⟩
  | .hbm, ⟨29, _⟩ => ⟨S8x1, .i32⟩
  | .hbm, ⟨30, _⟩ => ⟨S8x1, .i32⟩
  | .hbm, ⟨31, _⟩ => ⟨S8x2, .i32⟩
  | .hbm, ⟨32, _⟩ => ⟨S_, .f32⟩
  | .hbm, ⟨33, _⟩ => ⟨S8, .f32⟩
  | .hbm, ⟨34, _⟩ => ⟨S128x128, .f32⟩
  | .hbm, ⟨35, _⟩ => ⟨S_, .f32⟩
  | .hbm, ⟨36, _⟩ => ⟨S128, .f32⟩
  | .hbm, ⟨37, _⟩ => ⟨S_, .i32⟩
  | .hbm, ⟨38, _⟩ => ⟨S1, .i32⟩
  | .hbm, ⟨39, _⟩ => ⟨S128, .f32⟩
  | .hbm, ⟨40, _⟩ => ⟨S1x128, .f32⟩
  | .hbm, ⟨41, _⟩ => ⟨S_, .f32⟩
  | .hbm, ⟨42, _⟩ => ⟨S128, .f32⟩
  | .hbm, ⟨43, _⟩ => ⟨S_, .i32⟩
  | .hbm, ⟨44, _⟩ => ⟨S1, .i32⟩
  | .hbm, ⟨45, _⟩ => ⟨S128, .f32⟩
  | .hbm, ⟨46, _⟩ => ⟨S1x128, .f32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S128, .f32⟩
  | .hbm, ⟨52, _⟩ => ⟨S1x128, .f32⟩
  | .hbm, ⟨53, _⟩ => ⟨S4x8192x8, .f32⟩
  | .hbm, ⟨54, _⟩ => ⟨S4x8192x8, .f32⟩
  | .hbm, ⟨55, _⟩ => ⟨S4x1x64, .f32⟩
  | .local _ .vmem, ⟨0, _⟩ => ⟨S1x4096x768, .f32⟩
  | .local _ .vmem, ⟨1, _⟩ => ⟨S1x4096x768, .f32⟩
  | .local _ .vmem, ⟨2, _⟩ => ⟨S768x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S1x4096x8, .f32⟩
  | .local _ .vmem, ⟨8, _⟩ => ⟨S1x4096x8, .f32⟩
  | .local _ .vmem, ⟨9, _⟩ => ⟨S1x4096x8, .f32⟩
  | .local _ .vmem, ⟨10, _⟩ => ⟨S1x4096x8, .f32⟩
  | .local _ .vmem, ⟨11, _⟩ => ⟨S1x1x64, .f32⟩
  | .local _ .vmem, ⟨12, _⟩ => ⟨S1x1x64, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_v7 : Ref sig .tc := ⟨.hbm, 16, rfl⟩
abbrev main_v8 : Ref sig .tc := ⟨.hbm, 17, rfl⟩
abbrev main_c_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_c_9 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_10 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35_0 : Ref sig .tc := ⟨.hbm, 53, rfl⟩
abbrev main_v35_1 : Ref sig .tc := ⟨.hbm, 54, rfl⟩
abbrev main_v35_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x4096x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x8 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S4x8192x768 : Shape := ⟨3, ![4, 8192, 768]⟩
abbrev S768x64 : Shape := ⟨2, ![768, 64]⟩
abbrev S64 : Shape := ⟨1, ![64]⟩
abbrev S768x8 : Shape := ⟨2, ![768, 8]⟩
abbrev S8 : Shape := ⟨1, ![8]⟩
abbrev S4x8192x64 : Shape := ⟨3, ![4, 8192, 64]⟩
abbrev S1x1x64 : Shape := ⟨3, ![1, 1, 64]⟩
abbrev S_ : Shape := ⟨0, ![]⟩
abbrev S4x64 : Shape := ⟨2, ![4, 64]⟩
abbrev S4x1x64 : Shape := ⟨3, ![4, 1, 64]⟩
abbrev S4x8192x8 : Shape := ⟨3, ![4, 8192, 8]⟩
abbrev S1x1x8 : Shape := ⟨3, ![1, 1, 8]⟩
abbrev S4x8192 : Shape := ⟨2, ![4, 8192]⟩
abbrev S4x8192x1 : Shape := ⟨3, ![4, 8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S768x64, .f32⟩
  | .hbm, ⟨2, _⟩ => ⟨S64, .f32⟩
  | .hbm, ⟨3, _⟩ => ⟨S768x8, .f32⟩
  | .hbm, ⟨4, _⟩ => ⟨S8, .f32⟩
  | .hbm, ⟨5, _⟩ => ⟨S4x8192x64, .f32⟩
  | .hbm, ⟨6, _⟩ => ⟨S1x1x64, .f32⟩
  | .hbm, ⟨7, _⟩ => ⟨S4x8192x64, .f32⟩
  | .hbm, ⟨8, _⟩ => ⟨S4x8192x64, .f32⟩
  | .hbm, ⟨9, _⟩ => ⟨S4x8192x64, .f32⟩
  | .hbm, ⟨10, _⟩ => ⟨S_, .f32⟩
  | .hbm, ⟨11, _⟩ => ⟨S4x64, .f32⟩
  | .hbm, ⟨12, _⟩ => ⟨S4x1x64, .f32⟩
  | .hbm, ⟨13, _⟩ => ⟨S_, .f32⟩
  | .hbm, ⟨14, _⟩ => ⟨S4x1x64, .f32⟩
  | .hbm, ⟨15, _⟩ => ⟨S4x1x64, .f32⟩
  | .hbm, ⟨16, _⟩ => ⟨S4x8192x8, .f32⟩
  | .hbm, ⟨17, _⟩ => ⟨S1x1x8, .f32⟩
  | .hbm, ⟨18, _⟩ => ⟨S4x8192x8, .f32⟩
  | .hbm, ⟨19, _⟩ => ⟨S4x8192x8, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S4x8192x1, .f32⟩
  | .hbm, ⟨26, _⟩ => ⟨S4x8192x8, .f32⟩
  | .hbm, ⟨27, _⟩ => ⟨S4x8192x8, .f32⟩
  | .hbm, ⟨28, _⟩ => ⟨S4x8192x8, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S4x8192x8, .f32⟩
  | .hbm, ⟨33, _⟩ => ⟨S4x8192x8, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proof.HostArrays.lean ====
/-
  The five arrays the host prepares for the kernel, read at an index.

  * `combined` is the two projection matrices side by side: columns 0 to 63 are the state weights, columns 64 to 71 the routing
    weights. The columns after these are zero, and nothing below reads them.
  * `pick` is the 128-by-128 matrix with a one at row `64 + e`, column `e`, for each expert `e < 8`, and zeros elsewhere.
    Multiplying by it on the right moves the routing columns to the front.
  * `routeBias` is the routing bias in lanes 0 to 7 and minus infinity in every other lane.
  * `stateBias` is the state bias in lanes 0 to 63.
  * `keep` is one in lanes 0 to 63.
-/
module

public import proofs.«01_k».proof.Proof.Gen.KernelIdeal.Value
public import Idealize.ShloMosaic.Lib.Routing.OpsSet
public import Idealize.ShloMosaic.Lib.ValueLayout
public import Idealize.ShloMosaic.Lib.IdealHost

@[expose] public section

noncomputable section

namespace Cert.KernelIdeal.Prep

open Cert.KernelIdeal Cert.KernelIdeal.Gen Idealize.ShloMosaic Idealize.ShloMosaic.TcCoe Idealize.SL.Sem
open Idealize.ShloMosaic.ValueIdx Idealize.ShloMosaic.StableHlo Idealize.ShloMosaic.Routing

/-! ## Two scatters read at an index -/

/-- Where an update lands that writes a vector of 8 at the front of a vector of 128: entry `k` at entry `k`. -/
theorem lands8 (idx : IVec S1 32) (h0 : (idx (ix1 0)).toInt = 0) (k : Fin 8) (e : Fin 128) :
    scatter_S128_S1_S8_0_n_0_0.resultIdx? (ix1 k) idx = some (ix1 e) ↔ k.val = e.val := by
  rw [resultIdx?_ix1]
  have hs : scatter_S128_S1_S8_0_n_0_0.start (ix1 k) idx 0 = (idx (ix1 0)).toInt := by
    have hi : scatter_S128_S1_S8_0_n_0_0.siIdx (ix1 k) ⟨0, Nat.one_pos⟩ = ix1 0 := by
      funext b; match b with | ⟨0, _⟩ => exact Subsingleton.elim (α := Fin 1) _ _
    rw [← hi]; rfl
  have hw : scatter_S128_S1_S8_0_n_0_0.window (ix1 k) 0 = k.val := rfl
  rw [hs, hw, h0]
  omega

/-- Where an update lands that writes a vector of 64 at the front of a vector of 128: entry `k` at entry `k`. -/
theorem lands64 (idx : IVec S1 32) (h0 : (idx (ix1 0)).toInt = 0) (k : Fin 64) (e : Fin 128) :
    scatter_S128_S1_S64_0_n_0_0.resultIdx? (ix1 k) idx = some (ix1 e) ↔ k.val = e.val := by
  rw [resultIdx?_ix1]
  have hs : scatter_S128_S1_S64_0_n_0_0.start (ix1 k) idx 0 = (idx (ix1 0)).toInt := by
    have hi : scatter_S128_S1_S64_0_n_0_0.siIdx (ix1 k) ⟨0, Nat.one_pos⟩ = ix1 0 := by
      funext b; match b with | ⟨0, _⟩ => exact Subsingleton.elim (α := Fin 1) _ _
    rw [← hi]; rfl
  have hw : scatter_S128_S1_S64_0_n_0_0.window (ix1 k) 0 = k.val := rfl
  rw [hs, hw, h0]
  omega

/-- Where update `k` of eight lands in a 128-by-128 matrix: at the pair of index words it reads. -/
theorem lands_pair (idx : IVec S8x2 32) (k : Fin 8) (r l : Fin 128) :
    scatter_S128x128_S8x2_S8_n_01_01_1.resultIdx? (ix1 k) idx = some (ix2 r l)
      ↔ (idx (ix2 k 0)).toInt = r.val ∧ (idx (ix2 k 1)).toInt = l.val := by
  rw [resultIdx?_ix2]
  have hs0 : scatter_S128x128_S8x2_S8_n_01_01_1.start (ix1 k) idx 0 = (idx (ix2 k 0)).toInt := by
    have hi : scatter_S128x128_S8x2_S8_n_01_01_1.siIdx (ix1 k) ⟨0, by decide⟩ = ix2 k 0 := by
      funext b; match b with | ⟨0, _⟩ => rfl | ⟨1, _⟩ => rfl
    rw [← hi]; rfl
  have hs1 : scatter_S128x128_S8x2_S8_n_01_01_1.start (ix1 k) idx 1 = (idx (ix2 k 1)).toInt := by
    have hi : scatter_S128x128_S8x2_S8_n_01_01_1.siIdx (ix1 k) ⟨1, by decide⟩ = ix2 k 1 := by
      funext b; match b with | ⟨0, _⟩ => rfl | ⟨1, _⟩ => rfl
    rw [← hi]; rfl
  have hw0 : scatter_S128x128_S8x2_S8_n_01_01_1.window (ix1 k) 0 = 0 := rfl
  have hw1 : scatter_S128x128_S8x2_S8_n_01_01_1.window (ix1 k) 1 = 0 := rfl
  rw [hs0, hs1, hw0, hw1]
  simp

/-! ## The arrays -/

variable (m : (ℓ : Loc nD τ sig) → Buf (Elt Ideal) ℓ) (c : Dev nD)

/-- The hidden states. -/
def hidden : FVec Ideal S4x8192x768 .f32 := m ((c : Thread nD τ).loc main_arg0)
/-- The state weights. -/
def wState : FVec Ideal S768x64 .f32 := m ((c : Thread nD τ).loc main_arg1)
/-- The state bias. -/
def bState : FVec Ideal S64 .f32 := m ((c : Thread nD τ).loc main_arg2)
/-- The routing weights. -/
def wRoute : FVec Ideal S768x8 .f32 := m ((c : Thread nD τ).loc main_arg3)
/-- The routing bias. -/
def bRoute : FVec Ideal S8 .f32 := m ((c : Thread nD τ).loc main_arg4)

/-- The combined weights as the kernel receives them. -/
def combined : FVec Ideal S768x128 .f32 := V m c main_v1
/-- The selection matrix as the kernel receives it. -/
def pick : FVec Ideal S128x128 .f32 := V m c main_v21
/-- The routing bias row as the kernel receives it. -/
def routeBias : FVec Ideal S1x128 .f32 := V m c main_v25
/-- The state bias row as the kernel receives it. -/
def stateBias : FVec Ideal S1x128 .f32 := V m c main_v29
/-- The lane mask as the kernel receives it. -/
def keep : FVec Ideal S1x128 .f32 := V m c main_v34

/-- The combined weights are the state weights, the routing weights and zeros, side by side. -/
theorem combined_eq : combined m c = concatenate S768x128 1 [⟨S768x64, wState m c⟩, ⟨S768x8, wRoute m c⟩,
      ⟨S768x56, broadcastInDim S768x56 ![] bcast_S_S768x56 (constant (F := Ideal) S_ .f32 0x00000000#32)⟩]
      concatenates_S768x64_S768x8_S768x56_S768x128_d1 := by
  unfold combined V
  after_results
  rfl

/-- Column `j < 64` of the combined weights is column `j` of the state weights. -/
theorem combined_state (k : Fin 768) (j : Fin 64) : combined m c (ix2 k ⟨j.val, by omega⟩) = wState m c (ix2 k j) := by
  rw [combined_eq]
  refine concatenate_apply_piece (t := S768x128) 1 _ _ _ 0 (by simp) S768x64 (wState m c) rfl rfl 0 rfl (ix2 k j) ?_ ?_
  · intro b hb; match b with | ⟨0, _⟩ => rfl | ⟨1, _⟩ => exact absurd rfl hb
  · show 0 + j.val = j.val; omega

/-- Column `64 + e` of the combined weights is column `e` of the routing weights. -/
theorem combined_route (k : Fin 768) (e : Fin 8) : combined m c (ix2 k ⟨64 + e.val, by omega⟩) = wRoute m c (ix2 k e) := by
  rw [combined_eq]
  refine concatenate_apply_piece (t := S768x128) 1 _ _ _ 1 (by simp) S768x8 (wRoute m c) rfl rfl 64 rfl (ix2 k e) ?_ ?_
  · intro b hb; match b with | ⟨0, _⟩ => rfl | ⟨1, _⟩ => exact absurd rfl hb
  · rfl

/-- The routing bias row, before it is laid out as one row. -/
theorem routeBias_eq : routeBias m c = shapeCast S1x128 (Host.scatter scatter_S128_S1_S8_0_n_0_0 (fun _ b => b)
      (broadcastInDim S128 ![] bcast_S_S128 (constant (F := Ideal) S_ .f32 0xFF800000#32))
      (broadcastInDim S1 ![] bcast_S_S1 (constantI S_ 32 0#32)) (bRoute m c)) shapeCasts_S128_S1x128 := by
  unfold routeBias V
  after_results
  rfl

/-- The bit pattern of minus infinity denotes the least extended real. -/
theorem ofBits_neg_inf : Ideal.ofBits .f32 0xFF800000#32 = ⊥ := by
  simp [Ideal.ofBits, Ideal.ieee]

/-- Lane `e < 8` of the routing bias row is the routing bias of expert `e`. -/
theorem routeBias_lt (e : Fin 8) : routeBias m c (ix2 0 ⟨e.val, by omega⟩) = bRoute m c (ix1 e) := by
  rw [routeBias_eq, shapeCast_a_1a_apply]
  refine scatter_set_hit _ _ _ _ _ _ (fun k hk => ?_) (ix1 e) ((lands8 _ rfl e _).2 rfl)
  obtain ⟨k, rfl⟩ : ∃ k' : Fin 8, k = ix1 k' := ⟨k 0, eq_ix1 k⟩
  have := (lands8 _ rfl k _).1 hk
  congr 2
  exact Fin.ext this

/-- Every other lane of the routing bias row is minus infinity. -/
theorem routeBias_ge (l : Fin 128) (hl : 8 ≤ l.val) : routeBias m c (ix2 0 l) = ⊥ := by
  rw [routeBias_eq, shapeCast_a_1a_apply, scatter_set_miss]
  · exact ofBits_neg_inf
  · intro k hk
    obtain ⟨k, rfl⟩ : ∃ k' : Fin 8, k = ix1 k' := ⟨k 0, eq_ix1 k⟩
    have := (lands8 _ rfl k _).1 hk
    omega

/-- The state bias row, before it is laid out as one row. -/
theorem stateBias_eq : stateBias m c = shapeCast S1x128 (Host.scatter scatter_S128_S1_S64_0_n_0_0 (fun _ b => b)
      (broadcastInDim S128 ![] bcast_S_S128 (constant (F := Ideal) S_ .f32 0x00000000#32))
      (broadcastInDim S1 ![] bcast_S_S1 (constantI S_ 32 0#32)) (bState m c)) shapeCasts_S128_S1x128 := by
  unfold stateBias V
  after_results
  rfl

/-- Lane `j < 64` of the state bias row is entry `j` of the state bias. -/
theorem stateBias_lt (j : Fin 64) : stateBias m c (ix2 0 ⟨j.val, by omega⟩) = bState m c (ix1 j) := by
  rw [stateBias_eq, shapeCast_a_1a_apply]
  refine scatter_set_hit _ _ _ _ _ _ (fun k hk => ?_) (ix1 j) ((lands64 _ rfl j _).2 rfl)
  obtain ⟨k, rfl⟩ : ∃ k' : Fin 64, k = ix1 k' := ⟨k 0, eq_ix1 k⟩
  have := (lands64 _ rfl k _).1 hk
  congr 2
  exact Fin.ext this

/-- The lane mask, before it is laid out as one row. -/
theorem keep_eq : keep m c = shapeCast S1x128 (uitofp (F := Ideal) .f32 (cmpi .slt (iotaInDim S128 32 0)
      (broadcastInDim S128 ![] bcast_S_S128 (constantI S_ 32 64#32)))) shapeCasts_S128_S1x128 := by
  unfold keep V
  after_results
  rfl

/-- A lane number below 64 compares below 64 as a 32-bit word. -/
theorem slt_64 : ∀ j : Fin 64, IntOp.cmpi .slt (BitVec.ofNat 32 j.val) 64#32 = 1#1 := by decide

/-- The mask is one in lane `j < 64`. -/
theorem keep_lt (j : Fin 64) : keep m c (ix2 0 ⟨j.val, by omega⟩) = 1 := by
  rw [keep_eq, shapeCast_a_1a_apply]
  show FloatOps.uitofp (F := Ideal) .f32 (IntOp.cmpi .slt (BitVec.ofNat 32 j.val) 64#32) = 1
  rw [slt_64]
  show (((1#1 : BitVec 1).toNat : ℝ) : EReal) = 1
  simp

/-- The row words of the selection matrix's ones: `64 + k`, wrapped around if it were negative. -/
def rows8 : IVec S8 32 :=
  select (cmpi .slt (addi (broadcastInDim S8 ![] bcast_S_S8 (constantI S_ 32 64#32)) (iotaInDim S8 32 0)) (broadcastInDim S8 ![] bcast_S_S8 (constantI S_ 32 0#32)))
    (addi (addi (broadcastInDim S8 ![] bcast_S_S8 (constantI S_ 32 64#32)) (iotaInDim S8 32 0)) (broadcastInDim S8 ![] bcast_S_S8 (constantI S_ 32 128#32)))
    (addi (broadcastInDim S8 ![] bcast_S_S8 (constantI S_ 32 64#32)) (iotaInDim S8 32 0))
/-- The column words of the selection matrix's ones: `k`, wrapped around if it were negative. -/
def cols8 : IVec S8 32 :=
  select (cmpi .slt (iotaInDim S8 32 0) (broadcastInDim S8 ![] bcast_S_S8 (constantI S_ 32 0#32)))
    (addi (iotaInDim S8 32 0) (broadcastInDim S8 ![] bcast_S_S8 (constantI S_ 32 128#32)))
    (iotaInDim S8 32 0)
/-- The two columns of index words side by side. -/
def words : IVec S8x2 32 := concatenate S8x2 1 [⟨S8x1, broadcastInDim S8x1 ![0] bcast_S8_S8x1_0 rows8⟩,
  ⟨S8x1, broadcastInDim S8x1 ![0] bcast_S8_S8x1_0 cols8⟩] concatenates_S8x1_S8x1_S8x2_d1

/-- The selection matrix is zeros with ones scattered at the pairs of index words. -/
theorem pick_eq : pick m c = Host.scatter scatter_S128x128_S8x2_S8_n_01_01_1 (fun _ b => b)
      (broadcastInDim S128x128 ![] bcast_S_S128x128 (constant (F := Ideal) S_ .f32 0x00000000#32)) words
      (broadcastInDim S8 ![] bcast_S_S8 (constant (F := Ideal) S_ .f32 0x3F800000#32)) := by
  unfold pick V words rows8 cols8
  after_results

/-- Row word `k` is `64 + k`. -/
theorem rows8_toInt : ∀ k : Fin 8, (rows8 (ix1 k)).toInt = 64 + k.val := by
  intro k
  show (Scalar.select (IntOp.cmpi .slt (IntOp.addi 64#32 (BitVec.ofNat 32 k.val)) 0#32) (IntOp.addi (IntOp.addi 64#32 (BitVec.ofNat 32 k.val)) 128#32)
    (IntOp.addi 64#32 (BitVec.ofNat 32 k.val))).toInt = _
  revert k; decide

/-- Column word `k` is `k`. -/
theorem cols8_toInt : ∀ k : Fin 8, (cols8 (ix1 k)).toInt = k.val := by
  intro k
  show (Scalar.select (IntOp.cmpi .slt (BitVec.ofNat 32 k.val) 0#32) (IntOp.addi (BitVec.ofNat 32 k.val) 128#32)
    (BitVec.ofNat 32 k.val)).toInt = _
  revert k; decide

/-- The first index word of pair `k` is `64 + k`. -/
theorem words_row (k : Fin 8) : (words (ix2 k 0)).toInt = 64 + k.val := by
  unfold words
  rw [concatenate_apply_piece (t := S8x2) 1 _ _ _ 0 (by decide) S8x1 (broadcastInDim S8x1 ![0] bcast_S8_S8x1_0 rows8) rfl rfl 0 rfl (ix2 k 0)
    (fun b hb => by match b with | ⟨0, _⟩ => rfl | ⟨1, _⟩ => exact absurd rfl hb) rfl,
    broadcastInDim_apply _ _ _ _ (ix1 k) (fun a => by match a with | ⟨0, _⟩ => rfl), rows8_toInt]

/-- The second index word of pair `k` is `k`. -/
theorem words_col (k : Fin 8) : (words (ix2 k 1)).toInt = k.val := by
  unfold words
  rw [concatenate_apply_piece (t := S8x2) 1 _ _ _ 1 (by decide) S8x1 (broadcastInDim S8x1 ![0] bcast_S8_S8x1_0 cols8) rfl rfl 1 rfl (ix2 k 0)
    (fun b hb => by match b with | ⟨0, _⟩ => rfl | ⟨1, _⟩ => exact absurd rfl hb) rfl,
    broadcastInDim_apply _ _ _ _ (ix1 k) (fun a => by match a with | ⟨0, _⟩ => rfl), cols8_toInt]

/-- The selection matrix has a one at row `64 + e`, column `e`. -/
theorem pick_hit (e : Fin 8) : pick m c (ix2 ⟨64 + e.val, by omega⟩ ⟨e.val, by omega⟩) = 1 := by
  rw [pick_eq]
  refine scatter_set_hit _ _ _ _ _ _ (fun k _ => Ideal.ofBits_one_f32) (ix1 e) ((lands_pair _ e _ _).2 ⟨?_, ?_⟩)
  · rw [words_row]; simp
  · rw [words_col]

/-- Everywhere else the selection matrix is zero. -/
theorem pick_miss (r l : Fin 128) (h : ¬(r.val = 64 + l.val ∧ l.val < 8)) : pick m c (ix2 r l) = 0 := by
  rw [pick_eq, scatter_set_miss]
  · exact Ideal.ofBits_zero_f32
  · intro k hk
    obtain ⟨k, rfl⟩ : ∃ k' : Fin 8, k = ix1 k' := ⟨k 0, eq_ix1 k⟩
    obtain ⟨h0, h1⟩ := (lands_pair _ k _ _).1 hk
    rw [words_row] at h0
    rw [words_col] at h1
    have := k.isLt
    omega

end Cert.KernelIdeal.Prep

end
-- ==== Proof.Router.lean ====
/-
  The router's mathematics on the extended reals, without either program: one row's softmax over eight experts, the facts that
  lanes holding minus infinity change neither a maximum nor a sum of exponentials, and a mean taken in two halves.
-/
module

public import Idealize.ShloMosaic.PureOps.Ideal.Laws
public import Idealize.ShloMosaic.Lib.ValueIdxCore

@[expose] public section

noncomputable section

namespace Router

open Idealize.ShloMosaic Idealize.ShloMosaic.ValueIdx

/-- The softmax of a row: the exponential of the entry less the row's maximum, divided by the sum of these exponentials. -/
def softmax {n : ℕ} (z : Fin n → EReal) (e : Fin n) : EReal :=
  Ideal.div (Ideal.exp (z e - Finset.univ.fold max ⊥ z)) (∑ e' : Fin n, Ideal.exp (z e' - Finset.univ.fold max ⊥ z))

/-- The maximum of 128 lanes of which only the first eight may exceed minus infinity is the maximum of those eight. -/
theorem fold_max_eight (f : Fin 128 → EReal) (hf : ∀ l : Fin 128, 8 ≤ l.val → f l = ⊥) :
    (Finset.univ : Finset (Fin 128)).fold max ⊥ f = (Finset.univ : Finset (Fin 8)).fold max ⊥ fun e => f ⟨e.val, by omega⟩ := by
  show Finset.univ.sup f = Finset.univ.sup fun e : Fin 8 => f ⟨e.val, by omega⟩
  apply le_antisymm
  · refine Finset.sup_le fun l _ => ?_
    by_cases hl : l.val < 8
    · exact Finset.le_sup (f := fun e : Fin 8 => f ⟨e.val, by omega⟩) (Finset.mem_univ ⟨l.val, hl⟩)
    · rw [hf l (by omega)]; exact bot_le
  · exact Finset.sup_le fun e _ => Finset.le_sup (f := f) (Finset.mem_univ _)

/-- The sum of 128 lanes of which only the first eight may differ from zero is the sum of those eight. -/
theorem sum_eight (f : Fin 128 → EReal) (hf : ∀ l : Fin 128, 8 ≤ l.val → f l = 0) :
    ∑ l : Fin 128, f l = ∑ e : Fin 8, f ⟨e.val, by omega⟩ := by
  refine (Fin.sum_univ_add (a := 8) (b := 120) f).trans ?_
  rw [Finset.sum_eq_zero (s := Finset.univ) (f := fun i : Fin 120 => f (Fin.natAdd 8 i))
    (fun i _ => hf _ (by show 8 ≤ 8 + i.val; omega)), add_zero]
  rfl

/-- Minus infinity less anything is minus infinity, and its exponential is zero. -/
theorem exp_bot_sub (x : EReal) : Ideal.exp (⊥ - x) = 0 := by
  rw [sub_eq_add_neg, EReal.bot_add]
  rfl

/-- The softmax over 128 lanes of which all but the first eight hold minus infinity is, on the first eight, their own softmax. -/
theorem softmax_eight (f : Fin 128 → EReal) (hf : ∀ l : Fin 128, 8 ≤ l.val → f l = ⊥) (e : Fin 8) :
    softmax f ⟨e.val, by omega⟩ = softmax (fun e : Fin 8 => f ⟨e.val, by omega⟩) e := by
  unfold softmax
  rw [fold_max_eight f hf, sum_eight _ fun l hl => by rw [hf l hl, exp_bot_sub]]

/-- A product with a column of a selection matrix, which is one in one place and zero elsewhere, selects that entry. -/
theorem sum_select {n : ℕ} (f p : Fin n → EReal) (i : Fin n) (hi : p i = 1) (h : ∀ k, k ≠ i → p k = 0) :
    ∑ k : Fin n, f k * p k = f i := by
  rw [Finset.sum_eq_single i (fun k _ hk => by rw [h k hk, mul_zero]) (fun hn => absurd (Finset.mem_univ i) hn), hi, mul_one]

/-- A sum over 8192 positions is the sum over the first 4096 plus the sum over the last 4096. -/
theorem sum_halves (f : Fin 8192 → EReal) :
    ∑ s : Fin 8192, f s = ∑ r : Fin 4096, f ⟨r.val, by omega⟩ + ∑ r : Fin 4096, f ⟨4096 + r.val, by omega⟩ :=
  Fin.sum_univ_add (a := 4096) (b := 4096) f

/-- The bit pattern of 8192 denotes the real number 8192. -/
theorem ofBits_8192 : Ideal.ofBits .f32 0x46000000#32 = ((8192 : ℝ) : EReal) := by
  simp [Ideal.ofBits, Ideal.ieee]
  norm_cast
  norm_num

/-- The bit pattern of the kernel's factor denotes the reciprocal of 8192. -/
theorem ofBits_inv_8192 : Ideal.ofBits .f32 0x39000000#32 = (((8192 : ℝ)⁻¹ : ℝ) : EReal) := by
  simp [Ideal.ofBits, Ideal.ieee]
  norm_cast
  norm_num

/-- Dividing by 8192 is multiplying by its reciprocal, at every extended real. -/
theorem div_8192 (x : EReal) : Ideal.div x (Ideal.ofBits .f32 0x46000000#32) = x * Ideal.ofBits .f32 0x39000000#32 := by
  rw [ofBits_8192, ofBits_inv_8192]
  unfold Ideal.div
  rw [if_neg (by norm_cast), EReal.coe_inv]

/-! ## The three results -/

/-- A batch of hidden states: 4 sequences of 8192 rows of 768 entries. -/
abbrev Hidden := FVec Ideal ⟨3, ![4, 8192, 768]⟩ .f32

/-- The logit of expert `e` at row `s` of sequence `b`: the row times the expert's weights, plus its bias. -/
def logit (h : Hidden) (w : FVec Ideal ⟨2, ![768, 8]⟩ .f32) (v : FVec Ideal ⟨1, ![8]⟩ .f32) (b : Fin 4) (s : Fin 8192) (e : Fin 8) : EReal :=
  ∑ i : Fin 768, h (ix3 b s i) * w (ix2 i e) + v (ix1 e)

/-- The weight of expert `e` at a row: the softmax of the row's logits. -/
def weight (h : Hidden) (w : FVec Ideal ⟨2, ![768, 8]⟩ .f32) (v : FVec Ideal ⟨1, ![8]⟩ .f32) (b : Fin 4) (s : Fin 8192) (e : Fin 8) : EReal :=
  softmax (logit h w v b s) e

/-- Entry `j` of the squashed state at row `s` of sequence `b`. -/
def state (h : Hidden) (w : FVec Ideal ⟨2, ![768, 64]⟩ .f32) (v : FVec Ideal ⟨1, ![64]⟩ .f32) (b : Fin 4) (s : Fin 8192) (j : Fin 64) : EReal :=
  Ideal.tanh (∑ i : Fin 768, h (ix3 b s i) * w (ix2 i j) + v (ix1 j))

/-- Entry `j` of the pooled state of sequence `b`: the mean of the squashed states over the 8192 rows. -/
def pooled (h : Hidden) (w : FVec Ideal ⟨2, ![768, 64]⟩ .f32) (v : FVec Ideal ⟨1, ![64]⟩ .f32) (b : Fin 4) (j : Fin 64) : EReal :=
  Ideal.div (∑ s : Fin 8192, state h w v b s j) (Ideal.ofBits .f32 0x46000000#32)

/-- The mean, accumulated: zero, plus the first half's sum, plus the second half's, times the reciprocal of 8192. -/
theorem pooled_halves (h : Hidden) (w : FVec Ideal ⟨2, ![768, 64]⟩ .f32) (v : FVec Ideal ⟨1, ![64]⟩ .f32) (b : Fin 4) (j : Fin 64) :
    pooled h w v b j = (0 + ∑ r : Fin 4096, state h w v b ⟨r.val, by omega⟩ j + ∑ r : Fin 4096, state h w v b ⟨4096 + r.val, by omega⟩ j)
      * Ideal.ofBits .f32 0x39000000#32 := by
  unfold pooled
  rw [div_8192, sum_halves, zero_add]

end Router

end
-- ==== Proof.Payload.lean ====
/-
  What one grid step of the kernel computes, read at an index over the extended reals.
-/
module

public import proofs.«01_k».proof.Proof.Router
public import proofs.«01_k».proof.Proof.Gen.KernelIdeal.Value
public import Idealize.ShloMosaic.Lib.ValueLayout
public import Idealize.ShloMosaic.Lib.ValueLayoutCasts
public import Idealize.ShloMosaic.Lib.MatmulPlain
public import Idealize.ShloMosaic.Lib.ValueIdx

@[expose] public section

noncomputable section

namespace Cert.KernelIdeal.Payload

open Cert.KernelIdeal Cert.KernelIdeal.Gen Idealize.ShloMosaic Idealize.ShloMosaic.TcCoe Idealize.SL.Sem
open Idealize.ShloMosaic.ValueIdx

variable (x : FVec Ideal S1x4096x768 .f32) (w : FVec Ideal S768x128 .f32) (p : FVec Ideal S128x128 .f32)
variable (b : FVec Ideal S1x128 .f32) (k : FVec Ideal S1x128 .f32)

/-- The combined projection of row `r` at column `j`: the row times that column of the combined weights. -/
theorem pay4_apply (r : Fin 4096) (j : Fin 128) :
    k0_pay4 (F := Ideal) x w (ix2 r j) = ∑ i : Fin 768, x (ix3 0 r i) * w (ix2 i j) := by
  unfold k0_pay4
  simp only [matmul, shapeCast_self]
  refine (Ideal.matmul_plain_apply (M := 4096) (K := 768) (N := 128) none _ _ _ r j).trans ?_
  rw [show constant (F := Ideal) S4096x128 .f32 0x00000000#32 (ix2 r j) = 0 from Ideal.ofBits_zero_f32, zero_add]
  refine Finset.sum_congr rfl fun i _ => ?_
  rw [shapeCast_1ab_ab_apply]

/-- The 128 logit lanes of row `r`: the combined projection times the selection matrix, plus the routing bias row. -/
theorem pay5_apply (r : Fin 4096) (l : Fin 128) :
    k0_pay5 (F := Ideal) x w p b (ix2 r l)
      = ∑ j : Fin 128, (∑ i : Fin 768, x (ix3 0 r i) * w (ix2 i j)) * p (ix2 j l) + b (ix2 0 l) := by
  unfold k0_pay5
  simp only [matmul, shapeCast_self]
  rw [addf_apply, broadcastTo_1b_ab_apply]
  show _ + _ = _
  congr 1
  refine (Ideal.matmul_plain_apply (M := 4096) (K := 128) (N := 128) none _ _ _ r l).trans ?_
  rw [show constant (F := Ideal) S4096x128 .f32 0x00000000#32 (ix2 r l) = 0 from Ideal.ofBits_zero_f32, zero_add]
  refine Finset.sum_congr rfl fun j _ => ?_
  rw [pay4_apply]

/-- The slice to the first eight lanes reads those lanes. -/
theorem first8_apply (z : FVec Ideal S4096x128 .f32) (r : Fin 4096) (e : Fin 8) :
    extractStridedSlice S4096x8 ![0, 0] z slices_S4096x128_o0_0_S4096x8 (ix2 r e) = z (ix2 r ⟨e.val, by omega⟩) :=
  extractStridedSlice_apply _ _ _ _ _ fun a => by
    match a with
    | ⟨0, _⟩ => exact (Nat.zero_add _).symm
    | ⟨1, _⟩ => exact (Nat.zero_add _).symm

/-- The slice to the first 64 lanes reads those lanes. -/
theorem first64_apply (z : FVec Ideal S1x128 .f32) (j : Fin 64) :
    extractStridedSlice S1x64 ![0, 0] z slices_S1x128_o0_0_S1x64 (ix2 0 j) = z (ix2 0 ⟨j.val, by omega⟩) :=
  extractStridedSlice_apply _ _ _ _ _ fun a => by
    match a with
    | ⟨0, _⟩ => rfl
    | ⟨1, _⟩ => exact (Nat.zero_add _).symm

/-- The first output block holds the first eight logit lanes. -/
theorem pay6_apply (r : Fin 4096) (e : Fin 8) :
    k0_pay6 (F := Ideal) x w p b (ix3 0 r e) = k0_pay5 (F := Ideal) x w p b (ix2 r ⟨e.val, by omega⟩) := by
  unfold k0_pay6
  exact (shapeCast_ab_1ab_apply (a := 4096) (b := 8) _ _ 0 r e).trans (first8_apply _ r e)

/-- A row's maximum over its 128 lanes. -/
theorem rowMax_apply (z : FVec Ideal S4096x128 .f32) (r : Fin 4096) :
    multiReduction .maximumf [1] S4096 z 0xFF800000#32 reduces_S4096x128_S4096 (.inl rfl) rfl (ix1 r)
      = Finset.univ.fold max ⊥ fun l : Fin 128 => z (ix2 r l) := by
  refine (Ideal.multiReduction_maximumf_single _ _ _ _ _ _).trans ?_
  rw [show FloatOps.ofBits (F := Ideal) .f32 0xFF800000#32 = ⊥ by
    show Ideal.ofBits .f32 0xFF800000#32 = ⊥
    simp [Ideal.ofBits, Ideal.ieee]]
  congr 1
  funext l
  show z _ = z _
  congr 1
  funext a; match a with | ⟨0, _⟩ => rfl | ⟨1, _⟩ => rfl

/-- A row's sum over its 128 lanes. -/
theorem rowSum_apply (z : FVec Ideal S4096x128 .f32) (r : Fin 4096) :
    multiReduction .add [1] S4096 z 0x00000000#32 reduces_S4096x128_S4096 (.inl rfl) rfl (ix1 r)
      = ∑ l : Fin 128, z (ix2 r l) := by
  refine (Ideal.multiReduction_add_single _ _ _ _ _ _).trans ?_
  refine Finset.sum_congr rfl fun l _ => ?_
  congr 1
  funext a; match a with | ⟨0, _⟩ => rfl | ⟨1, _⟩ => rfl

/-- A column's sum over the 4096 rows. -/
theorem colSum_apply (z : FVec Ideal S4096x128 .f32) (l : Fin 128) :
    multiReduction .add [0] S128 z 0x00000000#32 reduces_S4096x128_S128 (.inl rfl) rfl (ix1 l)
      = ∑ r : Fin 4096, z (ix2 r l) := by
  refine (Ideal.multiReduction_add_single _ _ _ _ _ _).trans ?_
  refine Finset.sum_congr rfl fun r _ => ?_
  congr 1
  funext a; match a with | ⟨0, _⟩ => rfl | ⟨1, _⟩ => rfl

/-- A column spread over 128 lanes reads the column. -/
theorem spread_apply (v : FVec Ideal S4096x1 .f32) (r : Fin 4096) (l : Fin 128) :
    broadcastTo S4096x128 v broadcasts_S4096x1_S4096x128 (ix2 r l) = v (ix2 r 0) :=
  broadcastTo_apply _ _ _ _ fun a => by match a with | ⟨0, _⟩ => rfl | ⟨1, _⟩ => rfl

/-- The second output block holds the softmax over all 128 logit lanes, at the first eight. -/
theorem pay7_apply (r : Fin 4096) (e : Fin 8) :
    k0_pay7 (F := Ideal) x w p b (ix3 0 r e)
      = Router.softmax (fun l : Fin 128 => k0_pay5 (F := Ideal) x w p b (ix2 r l)) ⟨e.val, by omega⟩ := by
  have he : ∀ l : Fin 128, exp (subf (k0_pay5 (F := Ideal) x w p b) (broadcastTo S4096x128 (shapeCast S4096x1
        (multiReduction .maximumf [1] S4096 (k0_pay5 (F := Ideal) x w p b) 0xFF800000#32 reduces_S4096x128_S4096 (.inl rfl) rfl)
        shapeCasts_S4096_S4096x1) broadcasts_S4096x1_S4096x128)) (ix2 r l)
      = Ideal.exp (k0_pay5 (F := Ideal) x w p b (ix2 r l)
        - Finset.univ.fold max ⊥ fun l : Fin 128 => k0_pay5 (F := Ideal) x w p b (ix2 r l)) := by
    intro l
    rw [← rowMax_apply]
    show Ideal.exp (_ - broadcastTo S4096x128 _ _ (ix2 r l)) = _
    rw [spread_apply, shapeCast_a_a1_apply]
  unfold k0_pay7
  refine (shapeCast_ab_1ab_apply (a := 4096) (b := 8) _ _ 0 r e).trans ((first8_apply _ r e).trans ?_)
  exact congrArg₂ Ideal.div (he _) ((spread_apply _ r _).trans ((shapeCast_a_a1_apply _ _ r 0).trans
    ((rowSum_apply _ r).trans (Finset.sum_congr rfl fun l _ => he l))))

/-- The hidden state's projection, squashed: the hyperbolic tangent of the combined projection plus the state bias row. -/
theorem pay8_apply (r : Fin 4096) (j : Fin 128) :
    k0_pay8 (F := Ideal) x w b (ix2 r j) = Ideal.tanh (∑ i : Fin 768, x (ix3 0 r i) * w (ix2 i j) + b (ix2 0 j)) := by
  unfold k0_pay8
  simp only [shapeCast_self]
  show Ideal.tanh (k0_pay4 (F := Ideal) x w (ix2 r j) + broadcastTo S4096x128 b _ (ix2 r j)) = _
  rw [pay4_apply, broadcastTo_1b_ab_apply]

/-- The accumulator starts at zero. -/
theorem pay1_apply (j : Fin 64) : k0_pay1 (F := Ideal) (ix3 0 0 j) = 0 := by
  unfold k0_pay1
  exact (shapeCast_ab_1ab_apply (a := 1) (b := 64) _ _ 0 0 j).trans Ideal.ofBits_zero_f32

/-- One accumulation: the accumulator plus the column sums of the masked rows. -/
theorem pay2_apply (z : FVec Ideal S4096x128 .f32) (o : FVec Ideal S1x1x64 .f32) (j : Fin 64) :
    k0_pay2 (F := Ideal) z k o (ix3 0 0 j)
      = o (ix3 0 0 j) + ∑ r : Fin 4096, z (ix2 r ⟨j.val, by omega⟩) * k (ix2 0 ⟨j.val, by omega⟩) := by
  unfold k0_pay2
  simp only [shapeCast_self]
  refine (shapeCast_ab_1ab_apply (a := 1) (b := 64) _ _ 0 0 j).trans ?_
  refine congrArg₂ (fun u v : EReal => u + v) (shapeCast_1ab_ab_apply (a := 1) (b := 64) _ _ 0 j) ?_
  refine (first64_apply _ j).trans ((shapeCast_a_1a_apply (a := 128) _ _ 0 _).trans ((colSum_apply _ _).trans ?_))
  refine Finset.sum_congr rfl fun r _ => ?_
  exact congrArg (fun v : EReal => z (ix2 r ⟨j.val, by omega⟩) * v) (broadcastTo_1b_ab_apply (a := 4096) (b := 128) k _ r _)

/-- The last step scales the accumulator by the reciprocal of 8192. -/
theorem pay3_apply (o : FVec Ideal S1x1x64 .f32) (j : Fin 64) :
    k0_pay3 (F := Ideal) o (ix3 0 0 j) = o (ix3 0 0 j) * Ideal.ofBits .f32 0x39000000#32 := by
  unfold k0_pay3
  refine (shapeCast_ab_1ab_apply (a := 1) (b := 64) _ _ 0 0 j).trans ?_
  exact congrArg (fun v : EReal => v * Ideal.ofBits .f32 0x39000000#32) (shapeCast_1ab_ab_apply (a := 1) (b := 64) _ _ 0 j)

end Cert.KernelIdeal.Payload

end
-- ==== Proof.Blocks.lean ====
/-
  What each grid point of the kernel reads, and what it computes from it.

  Grid point `t` works on sequence `t / 2`, rows `4096 * (t % 2)` to `4096 * (t % 2) + 4095`.
-/
module

public import proofs.«01_k».proof.Proof.HostArrays
public import proofs.«01_k».proof.Proof.Payload

@[expose] public section

noncomputable section

namespace Cert.KernelIdeal.Blocks

open Cert.KernelIdeal Cert.KernelIdeal.Gen Cert.KernelIdeal.Prep Cert.KernelIdeal.Payload
open Idealize.ShloMosaic Idealize.ShloMosaic.TcCoe Idealize.SL.Sem Idealize.ShloMosaic.ValueIdx

variable (m : (ℓ : Loc nD τ sig) → Buf (Elt Ideal) ℓ) (c : Dev nD)

/-- There are eight grid points. -/
theorem lt8 (t : Fin cfg0.N) : t.val < 8 := lt_of_lt_of_eq t.isLt N_0

/-- The sequence grid point `t` works on. -/
def seq (t : Fin cfg0.N) : Fin 4 := ⟨t.val / 2, by have := lt8 t; omega⟩

/-- Row `r` of the block grid point `t` works on, as a row of the whole sequence. -/
def row (t : Fin cfg0.N) (r : Fin 4096) : Fin 8192 := ⟨t.val % 2 * 4096 + r.val, by omega⟩

/-- The block indices of the hidden states at every grid point. -/
theorem index0 : ∀ t : Fin cfg0.N, win0_0.index t 0 = t.val / 2 ∧ win0_0.index t 1 = t.val % 2 ∧ win0_0.index t 2 = 0 :=
  (by decide +kernel : ∀ t : Fin grid0.N, win0_0.index t 0 = t.val / 2 ∧ win0_0.index t 1 = t.val % 2 ∧ win0_0.index t 2 = 0)

/-- The block indices of the five prepared arrays: each is one block. -/
theorem index1 : ∀ t : Fin cfg0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0) :=
  (by decide +kernel : ∀ t : Fin grid0.N, (win0_1.index t 0 = 0 ∧ win0_1.index t 1 = 0) ∧ (win0_2.index t 0 = 0 ∧ win0_2.index t 1 = 0)
    ∧ (win0_3.index t 0 = 0 ∧ win0_3.index t 1 = 0) ∧ (win0_4.index t 0 = 0 ∧ win0_4.index t 1 = 0)
    ∧ (win0_5.index t 0 = 0 ∧ win0_5.index t 1 = 0))

/-- The block of hidden states grid point `t` reads. -/
def x (t : Fin cfg0.N) : FVec Ideal S1x4096x768 .f32 := iblk m c 0 t

/-- That block at row `r`, entry `i`. -/
theorem x_apply (t : Fin cfg0.N) (r : Fin 4096) (i : Fin 768) : x m c t (ix3 0 r i) = hidden m c (ix3 (seq t) (row t r) i) := by
  obtain ⟨h0, h1, h2⟩ := index0 t
  unfold x iblk
  rw [View.read_apply]
  show V m c main_arg0 _ = _
  rw [V_main_arg0]
  show hidden m c _ = hidden m c _
  congr 1
  funext a
  apply Fin.ext
  match a with
  | ⟨0, _⟩ => show win0_0.index t 0 * 1 + 1 * 0 = t.val / 2; rw [h0]; omega
  | ⟨1, _⟩ => show win0_0.index t 1 * 4096 + 1 * r.val = t.val % 2 * 4096 + r.val; rw [h1]; omega
  | ⟨2, _⟩ => show win0_0.index t 2 * 768 + 1 * i.val = i.val; rw [h2]; omega

/-- Every grid point reads the whole combined weights. -/
theorem block1 (t : Fin cfg0.N) : (iblk m c 1 t : FVec Ideal S768x128 .f32) = combined m c := by
  funext j
  unfold iblk combined
  rw [View.read_apply]
  show V m c main_v1 _ = V m c main_v1 j
  congr 1
  funext a
  apply Fin.ext
  match a with
  | ⟨0, _⟩ => show win0_1.index t 0 * 768 + 1 * (j 0).val = (j 0).val; rw [(index1 t).1.1]; omega
  | ⟨1, _⟩ => show win0_1.index t 1 * 128 + 1 * (j 1).val = (j 1).val; rw [(index1 t).1.2]; omega

/-- Every grid point reads the whole state bias row. -/
theorem block2 (t : Fin cfg0.N) : (iblk m c 2 t : FVec Ideal S1x128 .f32) = stateBias m c := by
  funext j
  unfold iblk stateBias
  rw [View.read_apply]
  show V m c main_v29 _ = V m c main_v29 j
  congr 1
  funext a
  apply Fin.ext
  match a with
  | ⟨0, _⟩ => show win0_2.index t 0 * 1 + 1 * (j 0).val = (j 0).val; rw [(index1 t).2.1.1]; omega
  | ⟨1, _⟩ => show win0_2.index t 1 * 128 + 1 * (j 1).val = (j 1).val; rw [(index1 t).2.1.2]; omega

/-- Every grid point reads the whole selection matrix. -/
theorem block3 (t : Fin cfg0.N) : (iblk m c 3 t : FVec Ideal S128x128 .f32) = pick m c := by
  funext j
  unfold iblk pick
  rw [View.read_apply]
  show V m c main_v21 _ = V m c main_v21 j
  congr 1
  funext a
  apply Fin.ext
  match a with
  | ⟨0, _⟩ => show win0_3.index t 0 * 128 + 1 * (j 0).val = (j 0).val; rw [(index1 t).2.2.1.1]; omega
  | ⟨1, _⟩ => show win0_3.index t 1 * 128 + 1 * (j 1).val = (j 1).val; rw [(index1 t).2.2.1.2]; omega

/-- Every grid point reads the whole routing bias row. -/
theorem block4 (t : Fin cfg0.N) : (iblk m c 4 t : FVec Ideal S1x128 .f32) = routeBias m c := by
  funext j
  unfold iblk routeBias
  rw [View.read_apply]
  show V m c main_v25 _ = V m c main_v25 j
  congr 1
  funext a
  apply Fin.ext
  match a with
  | ⟨0, _⟩ => show win0_4.index t 0 * 1 + 1 * (j 0).val = (j 0).val; rw [(index1 t).2.2.2.1.1]; omega
  | ⟨1, _⟩ => show win0_4.index t 1 * 128 + 1 * (j 1).val = (j 1).val; rw [(index1 t).2.2.2.1.2]; omega

/-- Every grid point reads the whole lane mask. -/
theorem block5 (t : Fin cfg0.N) : (iblk m c 5 t : FVec Ideal S1x128 .f32) = keep m c := by
  funext j
  unfold iblk keep
  rw [View.read_apply]
  show V m c main_v34 _ = V m c main_v34 j
  congr 1
  funext a
  apply Fin.ext
  match a with
  | ⟨0, _⟩ => show win0_5.index t 0 * 1 + 1 * (j 0).val = (j 0).val; rw [(index1 t).2.2.2.2.1]; omega
  | ⟨1, _⟩ => show win0_5.index t 1 * 128 + 1 * (j 1).val = (j 1).val; rw [(index1 t).2.2.2.2.2]; omega

/-! ## What a grid point computes -/

/-- Lane `e < 8` of a logit row is that expert's logit: the selection matrix picks column `64 + e` of the combined projection,
    which is the projection by the routing weights. -/
theorem logits_lt (t : Fin cfg0.N) (r : Fin 4096) (e : Fin 8) :
    k0_pay5 (F := Ideal) (x m c t) (combined m c) (pick m c) (routeBias m c) (ix2 r ⟨e.val, by omega⟩)
      = Router.logit (hidden m c) (wRoute m c) (bRoute m c) (seq t) (row t r) e := by
  rw [pay5_apply, Router.sum_select _ (fun j => pick m c (ix2 j ⟨e.val, by omega⟩)) ⟨64 + e.val, by omega⟩ (pick_hit m c e)
    (fun k hk => pick_miss m c k _ fun h => hk (Fin.ext h.1)), routeBias_lt]
  unfold Router.logit
  simp only [combined_route, x_apply]

/-- Every other lane of a logit row is minus infinity: its column of the selection matrix is zero, and its bias is minus infinity. -/
theorem logits_ge (t : Fin cfg0.N) (r : Fin 4096) (l : Fin 128) (hl : 8 ≤ l.val) :
    k0_pay5 (F := Ideal) (x m c t) (combined m c) (pick m c) (routeBias m c) (ix2 r l) = ⊥ := by
  rw [pay5_apply, routeBias_ge m c l hl, EReal.add_bot]

/-- The first output block of grid point `t`: the logits of its rows. -/
theorem logits_block (t : Fin cfg0.N) (r : Fin 4096) (e : Fin 8) :
    k0_pay6 (F := Ideal) (x m c t) (combined m c) (pick m c) (routeBias m c) (ix3 0 r e)
      = Router.logit (hidden m c) (wRoute m c) (bRoute m c) (seq t) (row t r) e := by
  rw [pay6_apply, logits_lt]

/-- The second output block of grid point `t`: the expert weights of its rows. -/
theorem weights_block (t : Fin cfg0.N) (r : Fin 4096) (e : Fin 8) :
    k0_pay7 (F := Ideal) (x m c t) (combined m c) (pick m c) (routeBias m c) (ix3 0 r e)
      = Router.weight (hidden m c) (wRoute m c) (bRoute m c) (seq t) (row t r) e := by
  rw [pay7_apply, Router.softmax_eight _ (fun l hl => logits_ge m c t r l hl) e]
  unfold Router.weight
  simp only [logits_lt]

/-- What grid point `t` adds to the accumulator: the sum of the squashed states of its rows. -/
theorem states_block (t : Fin cfg0.N) (o : FVec Ideal S1x1x64 .f32) (j : Fin 64) :
    k0_pay2 (F := Ideal) (k0_pay8 (F := Ideal) (x m c t) (combined m c) (stateBias m c)) (keep m c) o (ix3 0 0 j)
      = o (ix3 0 0 j) + ∑ r : Fin 4096, Router.state (hidden m c) (wState m c) (bState m c) (seq t) (row t r) j := by
  rw [pay2_apply]
  congr 1
  refine Finset.sum_congr rfl fun r _ => ?_
  rw [keep_lt, mul_one, pay8_apply, stateBias_lt]
  unfold Router.state
  simp only [combined_state, x_apply]

end Cert.KernelIdeal.Blocks

end
-- ==== Proof.Body.lean ====
/-
  What one grid point of the kernel leaves in each of its three output blocks, as a term over the blocks it reads.

  The body computes the logits of a block of 4096 rows, their softmax, and the column sums of `tanh`. It stores the first two
  outright. The third accumulates over the two points of a batch row: the first point starts from zero, the second adds to what
  the first left and scales the sum.
-/
module

public import proofs.«01_k».proof.Proof.Gen.KernelIdeal.Value

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-- The zero offsets of a rank-2 access. -/
theorem hz2 : (![0, 0] : Fin 2 → Nat) = fun _ => 0 := funext fun a => by fin_cases a <;> rfl

/-- The zero offsets of a rank-3 access. -/
theorem hz3 : (![0, 0, 0] : Fin 3 → Nat) = fun _ => 0 := funext fun a => by fin_cases a <;> rfl

/-- The first point of a batch row leaves the block's logits in the first output. -/
theorem out_A_6 (c : Dev nD) (i : grid0.Coords)
    (a2 : Memref sig .tc .vmem S1x4096x768 .f32) (h2 : a2.IsWhole)
    (a3 : Memref sig .tc .vmem S768x128 .f32) (h3 : a3.IsWhole)
    (a4 : Memref sig .tc .vmem S1x128 .f32) (h4 : a4.IsWhole)
    (a5 : Memref sig .tc .vmem S128x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x4096x8 .f32) (h8 : a8.IsWhole)
    (a9 : Memref sig .tc .vmem S1x4096x8 .f32) (h9 : a9.IsWhole)
    (a10 : Memref sig .tc .vmem S1x1x64 .f32) (h10 : a10.IsWhole)
    (hc0 : cond0_0 i) (hc1 : ¬cond0_1 i)
    (x0 : Vec F S1x4096x768 .f32) (x1 : Vec F S768x128 .f32) (x2 : Vec F S1x128 .f32) (x3 : Vec F S128x128 .f32)
    (x4 x5 : Vec F S1x128 .f32) :
    out0_A_6 c i a2 h2 a3 h3 a4 h4 a5 h5 a6 h6 a7 h7 a8 h8 a9 h9 a10 h10 hc0 hc1 x0 x1 x2 x3 x4 x5 = k0_pay6 x0 x1 x3 x4 := by
  unfold out0_A_6
  rw [View.read_writes_eq_canon _ _ _ (cover0_A_6 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, View.ld_unit_zero (S := S1x4096x768) hz3,
    View.ld_unit_zero (S := S768x128) hz2, View.ld_unit_zero (S := S128x128) hz2, View.ld_unit_zero (S := S1x128) hz2,
    View.ld_unit_zero (S := S1x1x64) hz3]

/-- The second point of a batch row leaves the block's logits in the first output. -/
theorem out_B_6 (c : Dev nD) (i : grid0.Coords)
    (a2 : Memref sig .tc .vmem S1x4096x768 .f32) (h2 : a2.IsWhole)
    (a3 : Memref sig .tc .vmem S768x128 .f32) (h3 : a3.IsWhole)
    (a4 : Memref sig .tc .vmem S1x128 .f32) (h4 : a4.IsWhole)
    (a5 : Memref sig .tc .vmem S128x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x4096x8 .f32) (h8 : a8.IsWhole)
    (a9 : Memref sig .tc .vmem S1x4096x8 .f32) (h9 : a9.IsWhole)
    (a10 : Memref sig .tc .vmem S1x1x64 .f32) (h10 : a10.IsWhole)
    (hc0 : ¬cond0_0 i) (hc1 : cond0_1 i)
    (x0 : Vec F S1x4096x768 .f32) (x1 : Vec F S768x128 .f32) (x2 : Vec F S1x128 .f32) (x3 : Vec F S128x128 .f32)
    (x4 x5 : Vec F S1x128 .f32) (xo : Vec F S1x1x64 .f32) :
    out0_B_6 c i a2 h2 a3 h3 a4 h4 a5 h5 a6 h6 a7 h7 a8 h8 a9 h9 a10 h10 hc0 hc1 x0 x1 x2 x3 x4 x5 xo = k0_pay6 x0 x1 x3 x4 := by
  unfold out0_B_6
  rw [View.read_writes_eq_canon _ _ _ (cover0_B_6 c i a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, View.ld_unit_zero (S := S1x4096x768) hz3,
    View.ld_unit_zero (S := S768x128) hz2, View.ld_unit_zero (S := S128x128) hz2, View.ld_unit_zero (S := S1x128) hz2,
    View.ld_unit_zero (S := S1x1x64) hz3]

/-- The first point of a batch row leaves the block's softmax weights in the second output. -/
theorem out_A_7 (c : Dev nD) (i : grid0.Coords)
    (a2 : Memref sig .tc .vmem S1x4096x768 .f32) (h2 : a2.IsWhole)
    (a3 : Memref sig .tc .vmem S768x128 .f32) (h3 : a3.IsWhole)
    (a4 : Memref sig .tc .vmem S1x128 .f32) (h4 : a4.IsWhole)
    (a5 : Memref sig .tc .vmem S128x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x4096x8 .f32) (h8 : a8.IsWhole)
    (a9 : Memref sig .tc .vmem S1x4096x8 .f32) (h9 : a9.IsWhole)
    (a10 : Memref sig .tc .vmem S1x1x64 .f32) (h10 : a10.IsWhole)
    (hc0 : cond0_0 i) (hc1 : ¬cond0_1 i)
    (x0 : Vec F S1x4096x768 .f32) (x1 : Vec F S768x128 .f32) (x2 : Vec F S1x128 .f32) (x3 : Vec F S128x128 .f32)
    (x4 x5 : Vec F S1x128 .f32) :
    out0_A_7 c i a2 h2 a3 h3 a4 h4 a5 h5 a6 h6 a7 h7 a8 h8 a9 h9 a10 h10 hc0 hc1 x0 x1 x2 x3 x4 x5 = k0_pay7 x0 x1 x3 x4 := by
  unfold out0_A_7
  rw [View.read_writes_eq_canon _ _ _ (cover0_A_7 c i a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, View.ld_unit_zero (S := S1x4096x768) hz3,
    View.ld_unit_zero (S := S768x128) hz2, View.ld_unit_zero (S := S128x128) hz2, View.ld_unit_zero (S := S1x128) hz2,
    View.ld_unit_zero (S := S1x1x64) hz3]

/-- The second point of a batch row leaves the block's softmax weights in the second output. -/
theorem out_B_7 (c : Dev nD) (i : grid0.Coords)
    (a2 : Memref sig .tc .vmem S1x4096x768 .f32) (h2 : a2.IsWhole)
    (a3 : Memref sig .tc .vmem S768x128 .f32) (h3 : a3.IsWhole)
    (a4 : Memref sig .tc .vmem S1x128 .f32) (h4 : a4.IsWhole)
    (a5 : Memref sig .tc .vmem S128x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x4096x8 .f32) (h8 : a8.IsWhole)
    (a9 : Memref sig .tc .vmem S1x4096x8 .f32) (h9 : a9.IsWhole)
    (a10 : Memref sig .tc .vmem S1x1x64 .f32) (h10 : a10.IsWhole)
    (hc0 : ¬cond0_0 i) (hc1 : cond0_1 i)
    (x0 : Vec F S1x4096x768 .f32) (x1 : Vec F S768x128 .f32) (x2 : Vec F S1x128 .f32) (x3 : Vec F S128x128 .f32)
    (x4 x5 : Vec F S1x128 .f32) (xo : Vec F S1x1x64 .f32) :
    out0_B_7 c i a2 h2 a3 h3 a4 h4 a5 h5 a6 h6 a7 h7 a8 h8 a9 h9 a10 h10 hc0 hc1 x0 x1 x2 x3 x4 x5 xo = k0_pay7 x0 x1 x3 x4 := by
  unfold out0_B_7
  rw [View.read_writes_eq_canon _ _ _ (cover0_B_7 c i a2 h2 a3 h3 a4 h4 a5 h5 a6 h6 a7 h7 a8 h8 a9 h9 a10 h10 hc0 hc1 x0 x1 x2 x3 x4 x5 xo)]
  unfold kernelRun0_B
  dsimp only
  sl_unfold_words
  rw [View.canon_unit_zero hz3]
  simp only [View.readAt_eq_ld, h2.read_unread, h3.read_unread, h4.read_unread, h5.read_unread, h6.read_unread, h7.read_unread, h8.read_unread, h9.read_unread, h10.read_unread, View.ld_unit_zero (S := S1x4096x768) hz3,
    View.ld_unit_zero (S := S768x128) hz2, View.ld_unit_zero (S := S128x128) hz2, View.ld_unit_zero (S := S1x128) hz2,
    View.ld_unit_zero (S := S1x1x64) hz3]

/-- The first point of a batch row leaves, in the third output, the column sums of `tanh` over its block, added to zero. -/
theorem out_A_8 (c : Dev nD) (i : grid0.Coords)
    (a2 : Memref sig .tc .vmem S1x4096x768 .f32) (h2 : a2.IsWhole)
    (a3 : Memref sig .tc .vmem S768x128 .f32) (h3 : a3.IsWhole)
    (a4 : Memref sig .tc .vmem S1x128 .f32) (h4 : a4.IsWhole)
    (a5 : Memref sig .tc .vmem S128x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x4096x8 .f32) (h8 : a8.IsWhole)
    (a9 : Memref sig .tc .vmem S1x4096x8 .f32) (h9 : a9.IsWhole)
    (a10 : Memref sig .tc .vmem S1x1x64 .f32) (h10 : a10.IsWhole)
    (hc0 : cond0_0 i) (hc1 : ¬cond0_1 i)
    (x0 : Vec F S1x4096x768 .f32) (x1 : Vec F S768x128 .f32) (x2 : Vec F S1x128 .f32) (x3 : Vec F S128x128 .f32)
    (x4 x5 : Vec F S1x128 .f32) :
    out0_A_8 c i a2 h2 a3 h3 a4 h4 a5 h5 a6 h6 a7 h7 a8 h8 a9 h9 a10 h10 hc0 hc1 x0 x1 x2 x3 x4 x5 = k0_pay2 (k0_pay8 x0 x1 x2) x5 k0_pay1 := by
  unfold out0_A_8
  rw [View.read_writes_eq_canon _ _ _ (cover0_A_8 c i a2 h2 a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S1x1x64) hz3, View.readCov_unit_zero (S := S1x1x64) _ hz3]
  simp only [View.readAt_eq_ld, h2.read_unread, h3.read_unread, h4.read_unread, h5.read_unread, h6.read_unread, h7.read_unread, h8.read_unread, h9.read_unread, h10.read_unread, View.ld_unit_zero (S := S1x4096x768) hz3,
    View.ld_unit_zero (S := S768x128) hz2, View.ld_unit_zero (S := S128x128) hz2, View.ld_unit_zero (S := S1x128) hz2,
    View.ld_unit_zero (S := S1x1x64) hz3]

/-- The second point of a batch row adds its block's column sums to what the first point left, and scales the total. -/
theorem out_B_8 (c : Dev nD) (i : grid0.Coords)
    (a2 : Memref sig .tc .vmem S1x4096x768 .f32) (h2 : a2.IsWhole)
    (a3 : Memref sig .tc .vmem S768x128 .f32) (h3 : a3.IsWhole)
    (a4 : Memref sig .tc .vmem S1x128 .f32) (h4 : a4.IsWhole)
    (a5 : Memref sig .tc .vmem S128x128 .f32) (h5 : a5.IsWhole)
    (a6 : Memref sig .tc .vmem S1x128 .f32) (h6 : a6.IsWhole)
    (a7 : Memref sig .tc .vmem S1x128 .f32) (h7 : a7.IsWhole)
    (a8 : Memref sig .tc .vmem S1x4096x8 .f32) (h8 : a8.IsWhole)
    (a9 : Memref sig .tc .vmem S1x4096x8 .f32) (h9 : a9.IsWhole)
    (a10 : Memref sig .tc .vmem S1x1x64 .f32) (h10 : a10.IsWhole)
    (hc0 : ¬cond0_0 i) (hc1 : cond0_1 i)
    (x0 : Vec F S1x4096x768 .f32) (x1 : Vec F S768x128 .f32) (x2 : Vec F S1x128 .f32) (x3 : Vec F S128x128 .f32)
    (x4 x5 : Vec F S1x128 .f32) (xo : Vec F S1x1x64 .f32) :
    out0_B_8 c i a2 h2 a3 h3 a4 h4 a5 h5 a6 h6 a7 h7 a8 h8 a9 h9 a10 h10 hc0 hc1 x0 x1 x2 x3 x4 x5 xo = k0_pay3 (k0_pay2 (k0_pay8 x0 x1 x2) x5 xo) := by
  unfold out0_B_8
  rw [View.read_writes_eq_canon _ _ _ (cover0_B_8 c i a2 h2 a3 h3 a4 h4 a5 h5 a6 h6 a7 h7 a8 h8 a9 h9 a10 h10 hc0 hc1 x0 x1 x2 x3 x4 x5 xo)]
  unfold kernelRun0_B
  dsimp only
  sl_unfold_words
  rw [View.canon_cons_unit_zero (S := S1x1x64) hz3, View.readCov_unit_zero (S := S1x1x64) _ hz3]
  simp only [View.readAt_eq_ld, h2.read_unread, h3.read_unread, h4.read_unread, h5.read_unread, h6.read_unread, h7.read_unread, h8.read_unread, h9.read_unread, h10.read_unread, View.ld_unit_zero (S := S1x4096x768) hz3,
    View.ld_unit_zero (S := S768x128) hz2, View.ld_unit_zero (S := S128x128) hz2, View.ld_unit_zero (S := S1x128) hz2,
    View.ld_unit_zero (S := S1x1x64) hz3]

end Cert.KernelIdeal.Body

end
-- ==== Proof.Arrays.lean ====
/-
  What the kernel's three result arrays hold after the run.

  Each grid point writes its own block of the logits and of the expert weights. The pooled states of a sequence are accumulated
  over its two grid points and written back after the second.
-/
module

public import proofs.«01_k».proof.Proof.Blocks
public import proofs.«01_k».proof.Proof.Body
public import Idealize.ShloMosaic.Lib.Pipeline.ValueKit.Geometry

@[expose] public section

noncomputable section

namespace Cert.KernelIdeal.Arrays

open Cert.KernelIdeal Cert.KernelIdeal.Gen Cert.KernelIdeal.Prep Cert.KernelIdeal.Payload Cert.KernelIdeal.Blocks
open Idealize.ShloMosaic Idealize.ShloMosaic.TcCoe Idealize.SL.Sem Idealize.ShloMosaic.ValueIdx

variable (m : (ℓ : Loc nD τ sig) → Buf (Elt Ideal) ℓ) (c : Dev nD)

/-! ## What each grid point leaves in the output buffers -/

/-- Grid point `t` leaves its block of logits in the first output buffer. -/
theorem leaves6 (t : Fin cfg0.N) :
    (outsAt0 m c t.val t.isLt).1 = k0_pay6 (F := Ideal) (x m c t) (combined m c) (pick m c) (routeBias m c) := by
  rw [← block1 m c t, ← block3 m c t, ← block4 m c t]
  rcases Nat.mod_two_eq_zero_or_one t.val with h | h
  · rw [outsAt0_A m c t h (by omega), Body.out_A_6]; rfl
  · rw [outsAt0_B m c t (by omega) h, Body.out_B_6]; rfl

/-- Grid point `t` leaves its block of expert weights in the second output buffer. -/
theorem leaves7 (t : Fin cfg0.N) :
    (outsAt0 m c t.val t.isLt).2.1 = k0_pay7 (F := Ideal) (x m c t) (combined m c) (pick m c) (routeBias m c) := by
  rw [← block1 m c t, ← block3 m c t, ← block4 m c t]
  rcases Nat.mod_two_eq_zero_or_one t.val with h | h
  · rw [outsAt0_A m c t h (by omega), Body.out_A_7]; rfl
  · rw [outsAt0_B m c t (by omega) h, Body.out_B_7]; rfl

/-- The first grid point of a sequence leaves its rows' states, summed onto zero, in the third output buffer. -/
theorem leaves8_first (t : Fin cfg0.N) (h : t.val % 2 = 0) : (outsAt0 m c t.val t.isLt).2.2
    = k0_pay2 (F := Ideal) (k0_pay8 (F := Ideal) (x m c t) (combined m c) (stateBias m c)) (keep m c) (k0_pay1 (F := Ideal)) := by
  rw [← block1 m c t, ← block2 m c t, ← block5 m c t]
  rw [outsAt0_A m c t h (by omega), Body.out_A_8]; rfl

/-- The second grid point of a sequence adds its rows' states to what the first left, and scales the total. -/
theorem leaves8_second (t : Fin cfg0.N) (h : t.val % 2 = 1) : (outsAt0 m c t.val t.isLt).2.2
    = k0_pay3 (F := Ideal) (k0_pay2 (F := Ideal) (k0_pay8 (F := Ideal) (x m c t) (combined m c) (stateBias m c)) (keep m c)
        (outsAt0 m c (t.val - 1) (Nat.lt_of_le_of_lt (Nat.sub_le _ _) t.isLt)).2.2) := by
  rw [← block1 m c t, ← block2 m c t, ← block5 m c t]
  rw [outsAt0_B m c t (by omega) h, Body.out_B_8]; rfl

/-- So after the second grid point of a sequence the third output buffer holds that sequence's pooled states. -/
theorem pooled_block (t : Fin cfg0.N) (h : t.val % 2 = 1) (j : Fin 64) : (outsAt0 m c t.val t.isLt).2.2 (ix3 0 0 j)
    = Router.pooled (hidden m c) (wState m c) (bState m c) (seq t) j := by
  have hN := lt8 t
  have hlt : t.val - 1 < cfg0.N := Nat.lt_of_le_of_lt (Nat.sub_le _ _) t.isLt
  have h' : (⟨t.val - 1, hlt⟩ : Fin cfg0.N).val % 2 = 0 := by show (t.val - 1) % 2 = 0; omega
  have first := congrFun (leaves8_first m c ⟨t.val - 1, hlt⟩ h') (ix3 0 0 j)
  rw [states_block, pay1_apply] at first
  rw [leaves8_second m c t h, pay3_apply, states_block, Router.pooled_halves]
  refine congrArg (fun v : EReal => v * Ideal.ofBits .f32 0x39000000#32) ?_
  refine congrArg₂ (fun u v : EReal => u + v) (first.trans ?_) ?_
  · congr 1
    refine Finset.sum_congr rfl fun r _ => ?_
    congr 1
    · exact Fin.ext (by show (t.val - 1) / 2 = t.val / 2; omega)
    · exact Fin.ext (by show (t.val - 1) % 2 * 4096 + r.val = r.val; omega)
  · refine Finset.sum_congr rfl fun r _ => ?_
    congr 1
    exact Fin.ext (by show t.val % 2 * 4096 + r.val = 4096 + r.val; omega)

/-! ## The result arrays -/

/-- The logits of every row. -/
def logits : FVec Ideal S4x8192x8 .f32 := fun i => Router.logit (hidden m c) (wRoute m c) (bRoute m c) (i 0) (i 1) (i 2)
/-- The expert weights of every row. -/
def weights : FVec Ideal S4x8192x8 .f32 := fun i => Router.weight (hidden m c) (wRoute m c) (bRoute m c) (i 0) (i 1) (i 2)
/-- The pooled states of every sequence. -/
def pooledStates : FVec Ideal S4x1x64 .f32 := fun i => Router.pooled (hidden m c) (wState m c) (bState m c) (i 0) (i 2)

/-- The block indices of the logits at every grid point. -/
theorem index6 : ∀ t : Fin cfg0.N, win0_6.index t 0 = t.val / 2 ∧ win0_6.index t 1 = t.val % 2 ∧ win0_6.index t 2 = 0 :=
  (by decide +kernel : ∀ t : Fin grid0.N, win0_6.index t 0 = t.val / 2 ∧ win0_6.index t 1 = t.val % 2 ∧ win0_6.index t 2 = 0)

/-- The block indices of the expert weights at every grid point. -/
theorem index7 : ∀ t : Fin cfg0.N, win0_7.index t 0 = t.val / 2 ∧ win0_7.index t 1 = t.val % 2 ∧ win0_7.index t 2 = 0 :=
  (by decide +kernel : ∀ t : Fin grid0.N, win0_7.index t 0 = t.val / 2 ∧ win0_7.index t 1 = t.val % 2 ∧ win0_7.index t 2 = 0)

/-- The block indices of the pooled states at every grid point. -/
theorem index8 : ∀ t : Fin cfg0.N, win0_8.index t 0 = t.val / 2 ∧ win0_8.index t 1 = 0 ∧ win0_8.index t 2 = 0 :=
  (by decide +kernel : ∀ t : Fin grid0.N, win0_8.index t 0 = t.val / 2 ∧ win0_8.index t 1 = 0 ∧ win0_8.index t 2 = 0)

/-- The first result array holds the logits. -/
theorem final6 : (dats m 0 c).arrAt 6 cfg0.N = logits m c := by
  refine (dats m 0 c).arrAt_eq_of_covers 6 (logits m c) (by decide +kernel) fun t hf y => ?_
  blk_simp
  rw [after0_6, leaves6]
  obtain ⟨u, r, e, rfl⟩ : ∃ (u : Fin 1) (r : Fin 4096) (e : Fin 8), y = ix3 u r e := ⟨y 0, y 1, y 2, eq_ix3 y⟩
  obtain rfl : u = 0 := Subsingleton.elim _ _
  have hi : (win0_6.blk t).view.emb (ix3 (0 : Fin 1) r e) = ix3 (seq t) (row t r) e := by
    obtain ⟨h0, h1, h2⟩ := index6 t
    funext a
    apply Fin.ext
    match a with
    | ⟨0, _⟩ => show win0_6.index t 0 * 1 + 1 * 0 = t.val / 2; rw [h0]; omega
    | ⟨1, _⟩ => show win0_6.index t 1 * 4096 + 1 * r.val = t.val % 2 * 4096 + r.val; rw [h1]; omega
    | ⟨2, _⟩ => show win0_6.index t 2 * 8 + 1 * e.val = e.val; rw [h2]; omega
  exact (logits_block m c t r e).trans (congrArg (logits m c) hi).symm

/-- The second result array holds the expert weights. -/
theorem final7 : (dats m 0 c).arrAt 7 cfg0.N = weights m c := by
  refine (dats m 0 c).arrAt_eq_of_covers 7 (weights m c) (by decide +kernel) fun t hf y => ?_
  blk_simp
  rw [after0_7, leaves7]
  obtain ⟨u, r, e, rfl⟩ : ∃ (u : Fin 1) (r : Fin 4096) (e : Fin 8), y = ix3 u r e := ⟨y 0, y 1, y 2, eq_ix3 y⟩
  obtain rfl : u = 0 := Subsingleton.elim _ _
  have hi : (win0_7.blk t).view.emb (ix3 (0 : Fin 1) r e) = ix3 (seq t) (row t r) e := by
    obtain ⟨h0, h1, h2⟩ := index7 t
    funext a
    apply Fin.ext
    match a with
    | ⟨0, _⟩ => show win0_7.index t 0 * 1 + 1 * 0 = t.val / 2; rw [h0]; omega
    | ⟨1, _⟩ => show win0_7.index t 1 * 4096 + 1 * r.val = t.val % 2 * 4096 + r.val; rw [h1]; omega
    | ⟨2, _⟩ => show win0_7.index t 2 * 8 + 1 * e.val = e.val; rw [h2]; omega
  exact (weights_block m c t r e).trans (congrArg (weights m c) hi).symm

/-- The third result array holds the pooled states. -/
theorem final8 : (dats m 0 c).arrAt 8 cfg0.N = pooledStates m c := by
  refine (dats m 0 c).arrAt_eq_of_covers 8 (pooledStates m c) (by decide +kernel) fun t hf y => ?_
  blk_simp
  rw [after0_8]
  obtain ⟨u, v, j, rfl⟩ : ∃ (u v : Fin 1) (j : Fin 64), y = ix3 u v j := ⟨y 0, y 1, y 2, eq_ix3 y⟩
  obtain rfl : u = 0 := Subsingleton.elim _ _
  obtain rfl : v = 0 := Subsingleton.elim _ _
  have hi : (win0_8.blk t).view.emb (ix3 (0 : Fin 1) (0 : Fin 1) j) = ix3 (seq t) (0 : Fin 1) j := by
    obtain ⟨h0, h1, h2⟩ := index8 t
    funext a
    apply Fin.ext
    match a with
    | ⟨0, _⟩ => show win0_8.index t 0 * 1 + 1 * 0 = t.val / 2; rw [h0]; omega
    | ⟨1, _⟩ => show win0_8.index t 1 * 1 + 1 * 0 = 0; rw [h1]
    | ⟨2, _⟩ => show win0_8.index t 2 * 64 + 1 * j.val = j.val; rw [h2]; omega
  exact (pooled_block m c t ((flush0_8 t).mp hf) j).trans (congrArg (pooledStates m c) hi).symm

end Cert.KernelIdeal.Arrays

end
-- ==== Proof.Reference.lean ====
/-
  The reference's three results read at an index.
-/
module

public import proofs.«01_k».proof.Proof.Router
public import proofs.«01_k».proof.Proof.Gen.ReferenceIdeal.Run
public import Idealize.ShloMosaic.Lib.IdealHost
public import Idealize.ShloMosaic.Lib.ValueIdx
public import Idealize.ShloMosaic.Lib.Pipeline.Value
public import Idealize.ShloMosaic.Lib.KernelVsHost

@[expose] public section

noncomputable section

namespace Cert.ReferenceIdeal.Results

open Cert.ReferenceIdeal Cert.ReferenceIdeal.Gen Idealize.ShloMosaic Idealize.ShloMosaic.TcCoe Idealize.SL.Sem
open Idealize.ShloMosaic.ValueIdx

variable (h : FVec Ideal S4x8192x768 .f32)

/-- The reference's first result as a function of the arguments. -/
def logitsOf (w : FVec Ideal S768x8 .f32) (v : FVec Ideal S8 .f32) : FVec Ideal S4x8192x8 .f32 :=
  addf (Host.dotGeneral dot_S4x8192x768_S768x8_S4x8192x8_2_0_01_1_n_n none h w)
    (broadcastInDim S4x8192x8 ![0, 1, 2] bcast_S1x1x8_S4x8192x8_0_1_2 (broadcastInDim S1x1x8 ![2] bcast_S8_S1x1x8_2 v))

/-- The row maxima the reference subtracts. -/
def maxOf (z : FVec Ideal S4x8192x8 .f32) : FVec Ideal S4x8192 .f32 :=
  maximumf (broadcastInDim S4x8192 ![] bcast_S_S4x8192 (constant S_ .f32 0xFF800000#32))
    (Host.reduce FloatOps.maximumf z (constant S_ .f32 0xFF800000#32) reducesTo_S4x8192x8_S4x8192_d2 h_S_)

/-- A row quantity spread over the row's eight entries. -/
def spread (z : FVec Ideal S4x8192 .f32) : FVec Ideal S4x8192x8 .f32 :=
  broadcastInDim S4x8192x8 ![0, 1, 2] bcast_S4x8192x1_S4x8192x8_0_1_2 (broadcastInDim S4x8192x1 ![0, 1] bcast_S4x8192_S4x8192x1_0_1 z)

/-- The exponentials of the entries less their row's maximum. -/
def expOf (z : FVec Ideal S4x8192x8 .f32) : FVec Ideal S4x8192x8 .f32 := Host.exp (subf z (spread (maxOf z)))

/-- The reference's second result as a function of the first. -/
def weightsOf (z : FVec Ideal S4x8192x8 .f32) : FVec Ideal S4x8192x8 .f32 :=
  Host.divf (expOf z) (spread (Host.reduceAdd (expOf z) (constant S_ .f32 0x00000000#32) reducesTo_S4x8192x8_S4x8192_d2 h_S_))

/-- The squashed states the reference averages. -/
def statesOf (w : FVec Ideal S768x64 .f32) (v : FVec Ideal S64 .f32) : FVec Ideal S4x8192x64 .f32 :=
  Host.tanh (addf (Host.dotGeneral dot_S4x8192x768_S768x64_S4x8192x64_2_0_01_1_n_n none h w)
    (broadcastInDim S4x8192x64 ![0, 1, 2] bcast_S1x1x64_S4x8192x64_0_1_2 (broadcastInDim S1x1x64 ![2] bcast_S64_S1x1x64_2 v)))

/-- The reference's third result as a function of the squashed states. -/
def pooledOf (z : FVec Ideal S4x8192x64 .f32) : FVec Ideal S4x1x64 .f32 :=
  Host.divf (broadcastInDim S4x1x64 ![0, 2] bcast_S4x64_S4x1x64_0_2
      (Host.reduceAdd z (constant S_ .f32 0x00000000#32) reducesTo_S4x8192x64_S4x64_d1 h_S_))
    (broadcastInDim S4x1x64 ![] bcast_S_S4x1x64 (constant S_ .f32 0x46000000#32))

/-- The routing product at an index. -/
theorem routeDot_apply (w : FVec Ideal S768x8 .f32) (b : Fin 4) (s : Fin 8192) (e : Fin 8) :
    Host.dotGeneral dot_S4x8192x768_S768x8_S4x8192x8_2_0_01_1_n_n none h w (ix3 b s e)
      = ∑ i : Fin 768, h (ix3 b s i) * w (ix2 i e) := by
  simp only [Host.dotGeneral]
  refine (Ideal.dotGeneral_apply _ _ _ _ _ _).trans ?_
  have hr : dot_S4x8192x768_S768x8_S4x8192x8_2_0_01_1_n_n.contr.rank = 1 := rfl
  have hs : dot_S4x8192x768_S768x8_S4x8192x8_2_0_01_1_n_n.contr.size ⟨0, by rw [hr]; exact Nat.one_pos⟩ = 768 := rfl
  rw [← Equiv.sum_comp (contrEquiv1 _ 768 hr hs).symm]
  refine Finset.sum_congr rfl fun i _ => ?_
  have hi := contrEquiv1_symm_val _ 768 hr hs i
  congr 2
  · funext a; apply Fin.ext
    match a with
    | ⟨0, _⟩ => rfl
    | ⟨1, _⟩ => rfl
    | ⟨2, _⟩ => exact hi
  · funext a; apply Fin.ext
    match a with
    | ⟨0, _⟩ => exact hi
    | ⟨1, _⟩ => rfl

/-- The state product at an index. -/
theorem stateDot_apply (w : FVec Ideal S768x64 .f32) (b : Fin 4) (s : Fin 8192) (j : Fin 64) :
    Host.dotGeneral dot_S4x8192x768_S768x64_S4x8192x64_2_0_01_1_n_n none h w (ix3 b s j)
      = ∑ i : Fin 768, h (ix3 b s i) * w (ix2 i j) := by
  simp only [Host.dotGeneral]
  refine (Ideal.dotGeneral_apply _ _ _ _ _ _).trans ?_
  have hr : dot_S4x8192x768_S768x64_S4x8192x64_2_0_01_1_n_n.contr.rank = 1 := rfl
  have hs : dot_S4x8192x768_S768x64_S4x8192x64_2_0_01_1_n_n.contr.size ⟨0, by rw [hr]; exact Nat.one_pos⟩ = 768 := rfl
  rw [← Equiv.sum_comp (contrEquiv1 _ 768 hr hs).symm]
  refine Finset.sum_congr rfl fun i _ => ?_
  have hi := contrEquiv1_symm_val _ 768 hr hs i
  congr 2
  · funext a; apply Fin.ext
    match a with
    | ⟨0, _⟩ => rfl
    | ⟨1, _⟩ => rfl
    | ⟨2, _⟩ => exact hi
  · funext a; apply Fin.ext
    match a with
    | ⟨0, _⟩ => exact hi
    | ⟨1, _⟩ => rfl

/-- The first result at an index is the router's logit. -/
theorem logitsOf_apply (w : FVec Ideal S768x8 .f32) (v : FVec Ideal S8 .f32) (b : Fin 4) (s : Fin 8192) (e : Fin 8) :
    logitsOf h w v (ix3 b s e) = Router.logit h w v b s e := by
  refine congrArg₂ (fun x y : EReal => x + y) (routeDot_apply h w b s e) ?_
  refine (broadcastInDim_apply _ _ _ _ (ix3 (0 : Fin 1) (0 : Fin 1) e) fun a => by
    match a with | ⟨0, _⟩ => rfl | ⟨1, _⟩ => rfl | ⟨2, _⟩ => rfl).trans ?_
  exact broadcastInDim_apply _ _ _ _ (ix1 e) fun a => by match a with | ⟨0, _⟩ => rfl

/-- A squashed state at an index. -/
theorem statesOf_apply (w : FVec Ideal S768x64 .f32) (v : FVec Ideal S64 .f32) (b : Fin 4) (s : Fin 8192) (j : Fin 64) :
    statesOf h w v (ix3 b s j) = Router.state h w v b s j := by
  refine congrArg Ideal.tanh ?_
  refine congrArg₂ (fun x y : EReal => x + y) (stateDot_apply h w b s j) ?_
  refine (broadcastInDim_apply _ _ _ _ (ix3 (0 : Fin 1) (0 : Fin 1) j) fun a => by
    match a with | ⟨0, _⟩ => rfl | ⟨1, _⟩ => rfl | ⟨2, _⟩ => rfl).trans ?_
  exact broadcastInDim_apply _ _ _ _ (ix1 j) fun a => by match a with | ⟨0, _⟩ => rfl

/-- A row quantity spread over the row reads that row's quantity. -/
theorem spread_apply (z : FVec Ideal S4x8192 .f32) (b : Fin 4) (s : Fin 8192) (e : Fin 8) : spread z (ix3 b s e) = z (ix2 b s) := by
  refine (broadcastInDim_apply _ _ _ _ (ix3 b s (0 : Fin 1)) fun a => by
    match a with | ⟨0, _⟩ => rfl | ⟨1, _⟩ => rfl | ⟨2, _⟩ => rfl).trans ?_
  exact broadcastInDim_apply _ _ _ _ (ix2 b s) fun a => by match a with | ⟨0, _⟩ => rfl | ⟨1, _⟩ => rfl

/-- The shape fact that names the index of a row's entry. -/
theorem reducesRow : S4x8192x8.Reduces [2] S4x8192 := by decide

/-- The shape fact that names the index of a sequence's row. -/
theorem reducesSeq : S4x8192x64.Reduces [1] S4x64 := by decide

/-- A row's maximum. -/
theorem maxOf_apply (z : FVec Ideal S4x8192x8 .f32) (b : Fin 4) (s : Fin 8192) :
    maxOf z (ix2 b s) = Finset.univ.fold max ⊥ fun e : Fin 8 => z (ix3 b s e) := by
  have hbot : Ideal.ofBits .f32 0xFF800000#32 = ⊥ := by simp [Ideal.ofBits, Ideal.ieee]
  have hred := congrFun (hostReduce_maximumf_eq_multiReduction z 0xFF800000#32 reducesTo_S4x8192x8_S4x8192_d2 h_S_ reducesRow
    (.inl rfl) rfl) (ix2 b s)
  refine (congrArg₂ (fun x y : EReal => max x y) hbot (hred.trans (Ideal.multiReduction_maximumf_single _ _ _ _ _ _))).trans ?_
  refine (max_eq_right bot_le).trans ?_
  rw [show FloatOps.ofBits (F := Ideal) .f32 0xFF800000#32 = ⊥ from hbot]
  refine congrArg (Finset.univ.fold max ⊥) ?_
  funext e
  refine congrArg z ?_
  funext a; match a with | ⟨0, _⟩ => rfl | ⟨1, _⟩ => rfl | ⟨2, _⟩ => rfl

/-- A row's sum. -/
theorem rowSum_apply (z : FVec Ideal S4x8192x8 .f32) (b : Fin 4) (s : Fin 8192) :
    Host.reduceAdd z (constant S_ .f32 0x00000000#32) reducesTo_S4x8192x8_S4x8192_d2 h_S_ (ix2 b s) = ∑ e : Fin 8, z (ix3 b s e) := by
  refine (Ideal.hostReduceAdd_single reducesTo_S4x8192x8_S4x8192_d2 reducesRow z _ _).trans ?_
  refine (congrArg₂ (fun x y : EReal => x + y) Ideal.ofBits_zero_f32 ?_).trans (zero_add _)
  refine Finset.sum_congr rfl fun e _ => congrArg z ?_
  funext a; match a with | ⟨0, _⟩ => rfl | ⟨1, _⟩ => rfl | ⟨2, _⟩ => rfl

/-- A sequence's sum over its rows. -/
theorem seqSum_apply (z : FVec Ideal S4x8192x64 .f32) (b : Fin 4) (j : Fin 64) :
    Host.reduceAdd z (constant S_ .f32 0x00000000#32) reducesTo_S4x8192x64_S4x64_d1 h_S_ (ix2 b j) = ∑ s : Fin 8192, z (ix3 b s j) := by
  refine (Ideal.hostReduceAdd_single reducesTo_S4x8192x64_S4x64_d1 reducesSeq z _ _).trans ?_
  refine (congrArg₂ (fun x y : EReal => x + y) Ideal.ofBits_zero_f32 ?_).trans (zero_add _)
  refine Finset.sum_congr rfl fun s _ => congrArg z ?_
  funext a; match a with | ⟨0, _⟩ => rfl | ⟨1, _⟩ => rfl | ⟨2, _⟩ => rfl

/-- An exponential at an index. -/
theorem expOf_apply (z : FVec Ideal S4x8192x8 .f32) (b : Fin 4) (s : Fin 8192) (e : Fin 8) :
    expOf z (ix3 b s e) = Ideal.exp (z (ix3 b s e) - Finset.univ.fold max ⊥ fun e : Fin 8 => z (ix3 b s e)) :=
  congrArg (fun y : EReal => Ideal.exp (z (ix3 b s e) - y)) ((spread_apply _ b s e).trans (maxOf_apply z b s))

/-- The second result at an index is the softmax of the row. -/
theorem weightsOf_apply (z : FVec Ideal S4x8192x8 .f32) (b : Fin 4) (s : Fin 8192) (e : Fin 8) :
    weightsOf z (ix3 b s e) = Router.softmax (fun e : Fin 8 => z (ix3 b s e)) e := by
  unfold weightsOf
  rw [hostDivf_apply, spread_apply, rowSum_apply]
  simp only [expOf_apply]
  rfl

/-- The third result at an index is the mean over the sequence's rows. -/
theorem pooledOf_apply (z : FVec Ideal S4x8192x64 .f32) (b : Fin 4) (j : Fin 64) :
    pooledOf z (ix3 b 0 j) = Ideal.div (∑ s : Fin 8192, z (ix3 b s j)) (Ideal.ofBits .f32 0x46000000#32) := by
  refine congrArg₂ Ideal.div ?_ rfl
  refine (broadcastInDim_apply _ _ _ _ (ix2 b j) fun a => by match a with | ⟨0, _⟩ => rfl | ⟨1, _⟩ => rfl).trans ?_
  exact seqSum_apply z b j

end Cert.ReferenceIdeal.Results

end
-- ==== Proof.Equation.lean ====
/-
  The equation: from the same arguments, the kernel's result arrays and the reference's are equal.
-/
module

public import proofs.«01_k».proof.Proof.Arrays
public import proofs.«01_k».proof.Proof.Reference

@[expose] public section

noncomputable section

namespace Cert.Equation

open Idealize.ShloMosaic Idealize.ShloMosaic.TcCoe Idealize.SL.Sem Idealize.ShloMosaic.ValueIdx
open Cert.KernelIdeal Cert.KernelIdeal.Prep Cert.KernelIdeal.Arrays Cert.ReferenceIdeal.Results

variable (m : (ℓ : Loc nD τ sig) → Buf (Elt Ideal) ℓ) (c : Dev nD)

/-- The reference's logits are the kernel's. -/
theorem logits_eq : logitsOf (hidden m c) (wRoute m c) (bRoute m c) = logits m c := by
  funext i
  obtain ⟨b, s, e, rfl⟩ : ∃ (b : Fin 4) (s : Fin 8192) (e : Fin 8), i = ix3 b s e := ⟨i 0, i 1, i 2, eq_ix3 i⟩
  exact logitsOf_apply _ _ _ b s e

/-- The reference's expert weights are the kernel's. -/
theorem weights_eq : weightsOf (logitsOf (hidden m c) (wRoute m c) (bRoute m c)) = weights m c := by
  funext i
  obtain ⟨b, s, e, rfl⟩ : ∃ (b : Fin 4) (s : Fin 8192) (e : Fin 8), i = ix3 b s e := ⟨i 0, i 1, i 2, eq_ix3 i⟩
  rw [weightsOf_apply]
  simp only [logitsOf_apply]
  rfl

/-- The reference's pooled states are the kernel's. -/
theorem pooled_eq : pooledOf (statesOf (hidden m c) (wState m c) (bState m c)) = pooledStates m c := by
  funext i
  obtain ⟨b, u, j, rfl⟩ : ∃ (b : Fin 4) (u : Fin 1) (j : Fin 64), i = ix3 b u j := ⟨i 0, i 1, i 2, eq_ix3 i⟩
  obtain rfl : u = 0 := Subsingleton.elim _ _
  rw [pooledOf_apply]
  simp only [statesOf_apply]
  rfl

end Cert.Equation

end
-- ==== Proof.lean ====
/-
  The proof of `Cert.Claim`: the kernel, its idealization and the reference run to the end, leave their arguments unchanged and
  every semaphore at zero; the idealization is the kernel's own text; and over the extended reals the kernel's three results equal
  the reference's.

  The mathematics lies in the modules under `Proof/`:
  `Router` (the results as formulas, and the facts about softmax, selection and means),
  `HostArrays` (the arrays prepared for the kernel), `Body` (what each case of the kernel's body leaves),
  `Payload` (one grid step at an index), `Blocks` (what a grid point reads and computes), `Arrays` (the result arrays),
  `Reference` (the reference's results at an index) and `Equation` (the two sides are equal).
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel runs to the end, leaves its arguments unchanged and every semaphore at zero. -/
theorem frame_kernel : Cert.quiescent_Kernel := fun m ρ _ => Cert.Kernel.Gen.frame m ρ

/-- So does its idealization. -/
theorem frame_ideal : Cert.quiescent_KernelIdeal := fun m ρ _ => Cert.KernelIdeal.Gen.frame m ρ

/-- So does the reference. -/
theorem frame_reference : Cert.quiescent_ReferenceIdeal := fun m ρ _ =>
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Over the extended reals the kernel's three results equal the reference's, from memories that agree on the arguments. -/
theorem algebraic : Cert.algebraic_KernelIdeal_ReferenceIdeal := by
  intro m ρ m' ρ' _ hagree
  refine ⟨fun c => Cert.KernelIdeal.Arrays.logits m c, fun c => Cert.KernelIdeal.Arrays.weights m c,
    fun c => Cert.KernelIdeal.Arrays.pooledStates m c, ?_, ?_⟩
  · exact (θ_run Cert.KernelIdeal.defs _ _).mono
      (fun _ h c => ⟨(h c).1.trans (Cert.KernelIdeal.Arrays.final6 m c), (h c).2.1.trans (Cert.KernelIdeal.Arrays.final7 m c),
        (h c).2.2.1.trans (Cert.KernelIdeal.Arrays.final8 m c), (h c).2.2.2⟩)
      (Cert.KernelIdeal.Value.run_blocks (F := Ideal) m ρ)
  · refine (θ_run Cert.ReferenceIdeal.defs _ _).mono (fun _ h c => ?_) (Cert.ReferenceIdeal.Value.run (F := Ideal) m' ρ')
    obtain ⟨h0, h1, h2, hargs⟩ := h c
    obtain ⟨a0, a1, a2, a3, a4⟩ := hagree c
    rw [a0, a3, a4] at h0 h1
    rw [a0, a1, a2] at h2
    exact ⟨h0.trans (Cert.Equation.logits_eq m c), h1.trans (Cert.Equation.weights_eq m c),
      h2.trans (Cert.Equation.pooled_eq m c), hargs⟩

/-- Everything claimed. -/
theorem claim : Cert.Claim := ⟨Cert.Kernel.Gen.facts, Cert.KernelIdeal.Gen.facts, Cert.ReferenceIdeal.Gen.facts,
  frame_kernel, frame_ideal, frame_reference, trivial, algebraic⟩

end Cert.Proof

end
